-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_ExpertsIdeal [hPre_ranged : Cert.Pre_ranged.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_ranged.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_MoeIdeal (m : (ℓ : Loc Cert.MoeIdeal.nD Cert.MoeIdeal.τ Cert.MoeIdeal.sig) → Buf (Elt Ideal) ℓ) : Prop :=
  True

def Pre_MoeIdeal_ranged [hPre_ranged : Cert.Pre_ranged.Facts] (m : (ℓ : Loc Cert.MoeIdeal.nD Cert.MoeIdeal.τ Cert.MoeIdeal.sig) → Buf (Elt Ideal) ℓ) : Prop :=
  ∀ c : Dev Cert.MoeIdeal.nD,
    (Cert.Pre_ranged.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ExpertsIdeal [hExpertsIdeal : Cert.ExpertsIdeal.Facts] [hPre_ranged : Cert.Pre_ranged.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_ranged [hMoeIdeal : Cert.MoeIdeal.Facts] [hPre_ranged : Cert.Pre_ranged.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_ranged m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_ExpertsIdeal_MoeIdeal_on_in_use [hExpertsIdeal : Cert.ExpertsIdeal.Facts] [hMoeIdeal : Cert.MoeIdeal.Facts] [hPre_ranged : Cert.Pre_ranged.Facts] [hOn_in_use : Cert.On_in_use.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.MoeIdeal.nD Cert.MoeIdeal.τ Cert.MoeIdeal.sig) → Buf (Elt Ideal) ℓ) (g' : Dev Cert.MoeIdeal.nD → PrngReg), Pre_ExpertsIdeal m →
    (∀ c : Dev Cert.ExpertsIdeal.nD,
      m' ((c.tc : Thread Cert.MoeIdeal.nD Cert.MoeIdeal.τ).loc Cert.MoeIdeal.main_arg0) = m ((c.tc : Thread Cert.ExpertsIdeal.nD Cert.ExpertsIdeal.τ).loc Cert.ExpertsIdeal.main_arg0)
      ∧ m' ((c.tc : Thread Cert.MoeIdeal.nD Cert.MoeIdeal.τ).loc Cert.MoeIdeal.main_arg1) = m ((c.tc : Thread Cert.ExpertsIdeal.nD Cert.ExpertsIdeal.τ).loc Cert.ExpertsIdeal.main_arg1)
      ∧ m' ((c.tc : Thread Cert.MoeIdeal.nD Cert.MoeIdeal.τ).loc Cert.MoeIdeal.main_arg2) = m ((c.tc : Thread Cert.ExpertsIdeal.nD Cert.ExpertsIdeal.τ).loc Cert.ExpertsIdeal.main_arg2)
      ∧ m' ((c.tc : Thread Cert.MoeIdeal.nD Cert.MoeIdeal.τ).loc Cert.MoeIdeal.main_arg3) = m ((c.tc : Thread Cert.ExpertsIdeal.nD Cert.ExpertsIdeal.τ).loc Cert.ExpertsIdeal.main_arg3)
      ∧ m' ((c.tc : Thread Cert.MoeIdeal.nD Cert.MoeIdeal.τ).loc Cert.MoeIdeal.main_arg4) = m ((c.tc : Thread Cert.ExpertsIdeal.nD Cert.ExpertsIdeal.τ).loc Cert.ExpertsIdeal.main_arg4)
      ∧ m' ((c.tc : Thread Cert.MoeIdeal.nD Cert.MoeIdeal.τ).loc Cert.MoeIdeal.main_arg5) = m ((c.tc : Thread Cert.ExpertsIdeal.nD Cert.ExpertsIdeal.τ).loc Cert.ExpertsIdeal.main_arg5)
      ∧ m' ((c.tc : Thread Cert.MoeIdeal.nD Cert.MoeIdeal.τ).loc Cert.MoeIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![81920, 2048]⟩ : Shape).Idx, (Cert.On_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.MoeIdeal.defs (F := Ideal)) (onTc (τ := Cert.MoeIdeal.τ) (Cert.MoeIdeal.main (F := Ideal))) ⟨m', fun _ => 0, g'⟩ (fun r => ∀ c : Dev Cert.MoeIdeal.nD,
          (∀ i : (⟨2, ![81920, 2048]⟩ : Shape).Idx, (Cert.On_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.MoeIdeal.nD Cert.MoeIdeal.τ).loc Cert.MoeIdeal.main_v59) i = v0 c i)
          ∧ r.2.mem ((c.tc : Thread Cert.MoeIdeal.nD Cert.MoeIdeal.τ).loc Cert.MoeIdeal.main_arg0) = m' ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m' ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m' ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m' ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m' ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m' ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m' ((c.tc : Thread Cert.MoeIdeal.nD Cert.MoeIdeal.τ).loc Cert.MoeIdeal.main_arg6))

def Claim : Prop :=
  ∃ (hKernel : Cert.Kernel.Facts) (hKernelIdeal : Cert.KernelIdeal.Facts) (hReferenceIdeal : Cert.ReferenceIdeal.Facts) (hExpertsIdeal : Cert.ExpertsIdeal.Facts) (hMoeIdeal : Cert.MoeIdeal.Facts) (hPre_finite : Cert.Pre_finite.Facts) (hPre_ranged : Cert.Pre_ranged.Facts) (hOn_in_use : Cert.On_in_use.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ExpertsIdeal (hExpertsIdeal := hExpertsIdeal) (hPre_ranged := hPre_ranged)
    ∧ quiescent_MoeIdeal (hMoeIdeal := hMoeIdeal)
    ∧ quiescent_MoeIdeal_pre_ranged (hMoeIdeal := hMoeIdeal) (hPre_ranged := hPre_ranged)
    ∧ preserves_Kernel_KernelIdeal
    ∧ algebraic_KernelIdeal_ReferenceIdeal_pre_finite (hKernelIdeal := hKernelIdeal) (hReferenceIdeal := hReferenceIdeal) (hPre_finite := hPre_finite)
    ∧ algebraic_ExpertsIdeal_MoeIdeal_on_in_use (hExpertsIdeal := hExpertsIdeal) (hMoeIdeal := hMoeIdeal) (hPre_ranged := hPre_ranged) (hOn_in_use := hOn_in_use)
-- ==== On_in_use.lean ====
abbrev S81920x2048 : Shape := ⟨2, ![81920, 2048]⟩
abbrev S160 : Shape := ⟨1, ![160]⟩
abbrev S1 : Shape := ⟨1, ![1]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S_ : Shape := ⟨0, ![]⟩

class Facts : Prop where
  shapeCasts_S1_S_ : S1.ShapeCasts S_
  bcast_S_S81920x2048 : S_.BroadcastsInDim S81920x2048 (![] : Fin 0 → Fin S81920x2048.rank)

variable [Facts]

def fn {F : FTy → Type} [FloatOps F] (main_arg0 : FVec F S81920x2048 .bf16) (main_arg1 : IVec S160 32) (main_arg2 : IVec S1 32) (main_arg3 : FVec F S32x2048x4096 .bf16) (main_arg4 : FVec F S32x1x4096 .f32) (main_arg5 : FVec F S32x2048x2048 .f32) (main_arg6 : FVec F S32x1x2048 .f32) : IVec S81920x2048 1 :=
  let main_v0 : IVec S81920x2048 32 := iotaInDim S81920x2048 32 0
  let main_v1 : IVec S_ 32 := shapeCast S_ main_arg2 shapeCasts_S1_S_
  let main_c : IVec S_ 32 := constantI S_ 32 512#32
  let main_v2 : IVec S_ 32 := muli main_c main_v1
  let main_v3 : IVec S81920x2048 32 := broadcastInDim S81920x2048 ![] bcast_S_S81920x2048 main_v2
  let main_v4 : IVec S81920x2048 1 := cmpi .slt main_v0 main_v3
  main_v4
-- ==== Pre_finite.lean ====
abbrev S1024x16384 : Shape := ⟨2, ![1024, 16384]⟩
abbrev S16384x256 : Shape := ⟨2, ![16384, 256]⟩
abbrev S16x256 : Shape := ⟨2, ![16, 256]⟩
abbrev S256x16384 : Shape := ⟨2, ![256, 16384]⟩
abbrev S1x16 : Shape := ⟨2, ![1, 16]⟩
abbrev S1x1024 : Shape := ⟨2, ![1, 1024]⟩
abbrev S_ : Shape := ⟨0, ![]⟩

class Facts : Prop where
  bitsLt_bf16_f32 : FTy.bits .bf16 < FTy.bits .f32
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S16x256 : S_.BroadcastsInDim S16x256 (![] : Fin 0 → Fin S16x256.rank)
  reducesTo_S16x256_S_d0_1 : S16x256.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v16 : IVec S_ 1) (main_v17 : FVec F S1x16 .f32) : IVec S_ 1 :=
  let main_cst_4 : FVec F S_ .f32 := constant S_ .f32 0x7F800000#32
  let main_v18 : FVec F S1x16 .f32 := broadcastInDim S1x16 ![] bcast_S_S1x16 main_cst_4
  let main_v19 : IVec S1x16 1 := cmpf .olt main_v17 main_v18
  let main_c_5 : IVec S_ 1 := constantI S_ 1 1#1
  let main_v20 : IVec S_ 1 := (fun x v => Host.reduce IntOp.andi x v reducesTo_S1x16_S_d0_1 h_S_) main_v19 main_c_5
  let main_v21 : IVec S_ 1 := andi main_v16 main_v20
  main_v21

def fn {F : FTy → Type} [FloatOps F] (main_arg0 : FVec F S1024x16384 .bf16) (main_arg1 : FVec F S16384x256 .bf16) (main_arg2 : FVec F S16x256 .bf16) (main_arg3 : FVec F S256x16384 .bf16) (main_arg4 : FVec F S16x256 .bf16) (main_arg5 : FVec F S1x16 .f32) (main_arg6 : FVec F S1x1024 .f32) : IVec S_ 1 :=
  let main_v0 : FVec F S1024x16384 .f32 := (extf .f32 · bitsLt_bf16_f32) main_arg0
  let main_v1 : FVec F S1024x16384 .f32 := Host.absf main_v0
  let main_cst : FVec F S_ .f32 := constant S_ .f32 0x7F800000#32
  let main_v2 : FVec F S1024x16384 .f32 := broadcastInDim S1024x16384 ![] bcast_S_S1024x16384 main_cst
  let main_v3 : IVec S1024x16384 1 := cmpf .olt main_v1 main_v2
  let main_c : IVec S_ 1 := constantI S_ 1 1#1
  let main_v4 : IVec S_ 1 := (fun x v => Host.reduce IntOp.andi x v reducesTo_S1024x16384_S_d0_1 h_S_) main_v3 main_c
  let main_v5 : FVec F S16384x256 .f32 := (extf .f32 · bitsLt_bf16_f32) main_arg1
  let main_v6 : FVec F S16384x256 .f32 := Host.absf main_v5
  let main_cst_0 : FVec F S_ .f32 := constant S_ .f32 0x7F800000#32
  let main_v7 : FVec F S16384x256 .f32 := broadcastInDim S16384x256 ![] bcast_S_S16384x256 main_cst_0
  let main_v8 : IVec S16384x256 1 := cmpf .olt main_v6 main_v7
  let main_c_1 : IVec S_ 1 := constantI S_ 1 1#1
  let main_v9 : IVec S_ 1 := (fun x v => Host.reduce IntOp.andi x v reducesTo_S16384x256_S_d0_1 h_S_) main_v8 main_c_1
  let main_v10 : IVec S_ 1 := andi main_v4 main_v9
  let main_v11 : FVec F S16x256 .f32 := (extf .f32 · bitsLt_bf16_f32) main_arg2
  let main_v12 : FVec F S16x256 .f32 := Host.absf main_v11
  let main_cst_2 : FVec F S_ .f32 := constant S_ .f32 0x7F800000#32
  let main_v13 : FVec F S16x256 .f32 := broadcastInDim S16x256 ![] bcast_S_S16x256 main_cst_2
  let main_v14 : IVec S16x256 1 := cmpf .olt main_v12 main_v13
  let main_c_3 : IVec S_ 1 := constantI S_ 1 1#1
  let main_v15 : IVec S_ 1 := (fun x v => Host.reduce IntOp.andi x v reducesTo_S16x256_S_d0_1 h_S_) main_v14 main_c_3
  let main_v16 : IVec S_ 1 := andi main_v10 main_v15
  let main_v17 : FVec F S1x16 .f32 := Host.absf main_arg5
  fn_part1 (F := F) main_v16 main_v17
-- ==== Pre_ranged.lean ====
abbrev S81920x2048 : Shape := ⟨2, ![81920, 2048]⟩
abbrev S160 : Shape := ⟨1, ![160]⟩
abbrev S1 : Shape := ⟨1, ![1]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : FVec F S81920x2048 .bf16) (main_arg1 : IVec S160 32) (main_arg2 : IVec S1 32) (main_arg3 : FVec F S32x2048x4096 .bf16) (main_arg4 : FVec F S32x1x4096 .f32) (main_arg5 : FVec F S32x2048x2048 .f32) (main_arg6 : FVec F S32x1x2048 .f32) : IVec S_ 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg2 shapeCasts_S1_S_
  let main_c_3 : IVec S_ 32 := constantI S_ 32 160#32
  let main_v10 : IVec S_ 1 := cmpi .sle main_v9 main_c_3
  let main_v11 : IVec S_ 1 := andi main_v8 main_v10
  main_v11
-- ==== Kernel.lean ====
abbrev S1024x16384 : Shape := ⟨2, ![1024, 16384]⟩
abbrev S16384x256 : Shape := ⟨2, ![16384, 256]⟩
abbrev S16x256 : Shape := ⟨2, ![16, 256]⟩
abbrev S256x16384 : Shape := ⟨2, ![256, 16384]⟩
abbrev S1x16 : Shape := ⟨2, ![1, 16]⟩
abbrev S1x1024 : Shape := ⟨2, ![1, 1024]⟩
abbrev S256x16 : Shape := ⟨2, ![256, 16]⟩
abbrev S16384x1024 : Shape := ⟨2, ![16384, 1024]⟩
abbrev S1024x256 : Shape := ⟨2, ![1024, 256]⟩
abbrev S128x256 : Shape := ⟨2, ![128, 256]⟩
abbrev S256x256 : Shape := ⟨2, ![256, 256]⟩
abbrev S256x128 : Shape := ⟨2, ![256, 128]⟩
abbrev S256x1024 : Shape := ⟨2, ![256, 1024]⟩
abbrev S272x128 : Shape := ⟨2, ![272, 128]⟩
abbrev S64x128 : Shape := ⟨2, ![64, 128]⟩
abbrev S272x512 : Shape := ⟨2, ![272, 512]⟩
abbrev S1x128 : Shape := ⟨2, ![1, 128]⟩
abbrev S128x128 : Shape := ⟨2, ![128, 128]⟩
abbrev S16x128 : Shape := ⟨2, ![16, 128]⟩
abbrev S64x16 : Shape := ⟨2, ![64, 16]⟩
abbrev S64x272 : Shape := ⟨2, ![64, 272]⟩
abbrev S1x1 : Shape := ⟨2, ![1, 1]⟩
abbrev S1x512 : Shape := ⟨2, ![1, 512]⟩
abbrev S128x512 : Shape := ⟨2, ![128, 512]⟩
abbrev S512 : Shape := ⟨1, ![512]⟩
abbrev S64x512 : Shape := ⟨2, ![64, 512]⟩
abbrev S128 : Shape := ⟨1, ![128]⟩
abbrev S1x256 : Shape := ⟨2, ![1, 256]⟩

abbrev nBuf : Space → Nat
  | .hbm => 9
  | .vmem => 17
  | .smem => 0
  | _ => 0

abbrev bufTy : (tb : Table) → Fin (tcTables nBuf tb) → BufTy
  | .hbm, ⟨0, _⟩ => ⟨S1024x16384, .bf16⟩
  | .hbm, ⟨1, _⟩ => ⟨S16384x256, .bf16⟩
  | .hbm, ⟨2, _⟩ => ⟨S16x256, .bf16⟩
  | .hbm, ⟨3, _⟩ => ⟨S256x16384, .bf16⟩
  | .hbm, ⟨4, _⟩ => ⟨S16x256, .bf16⟩
  | .hbm, ⟨5, _⟩ => ⟨S1x16, .f32⟩
  | .hbm, ⟨6, _⟩ => ⟨S1x1024, .f32⟩
  | .hbm, ⟨7, _⟩ => ⟨S256x16, .bf16⟩
  | .hbm, ⟨8, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S128x256, .bf16⟩
  | .local _ .vmem, ⟨3, _⟩ => ⟨S128x256, .bf16⟩
  | .local _ .vmem, ⟨4, _⟩ => ⟨S256x256, .bf16⟩
  | .local _ .vmem, ⟨5, _⟩ => ⟨S256x256, .bf16⟩
  | .local _ .vmem, ⟨6, _⟩ => ⟨S16x256, .bf16⟩
  | .local _ .vmem, ⟨7, _⟩ => ⟨S256x128, .bf16⟩
  | .local _ .vmem, ⟨8, _⟩ => ⟨S256x128, .bf16⟩
  | .local _ .vmem, ⟨9, _⟩ => ⟨S256x256, .bf16⟩
  | .local _ .vmem, ⟨10, _⟩ => ⟨S256x256, .bf16⟩
  | .local _ .vmem, ⟨11, _⟩ => ⟨S256x16, .bf16⟩
  | .local _ .vmem, ⟨12, _⟩ => ⟨S1x16, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S1024x256, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![c0_i32_0.toNat, v4.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1024x16384 : Shape := ⟨2, ![1024, 16384]⟩
abbrev S16384x256 : Shape := ⟨2, ![16384, 256]⟩
abbrev S16x256 : Shape := ⟨2, ![16, 256]⟩
abbrev S256x16384 : Shape := ⟨2, ![256, 16384]⟩
abbrev S1x16 : Shape := ⟨2, ![1, 16]⟩
abbrev S1x1024 : Shape := ⟨2, ![1, 1024]⟩
abbrev S4x4 : Shape := ⟨2, ![4, 4]⟩
abbrev S16384x1024 : Shape := ⟨2, ![16384, 1024]⟩
abbrev S1x16x4x64 : Shape := ⟨4, ![1, 16, 4, 64]⟩
abbrev S2x64x128x4x64 : Shape := ⟨5, ![2, 64, 128, 4, 64]⟩
abbrev S2x1x128x4x64 : Shape := ⟨5, ![2, 1, 128, 4, 64]⟩
abbrev S_ : Shape := ⟨0, ![]⟩
abbrev S2x63x128x4x64 : Shape := ⟨5, ![2, 63, 128, 4, 64]⟩
abbrev S1x1x16x4x64 : Shape := ⟨5, ![1, 1, 16, 4, 64]⟩
abbrev S2x64x16x4x64 : Shape := ⟨5, ![2, 64, 16, 4, 64]⟩
abbrev S2x64x272x4x64 : Shape := ⟨5, ![2, 64, 272, 4, 64]⟩
abbrev S2x64x128x4x4x64 : Shape := ⟨6, ![2, 64, 128, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S64x128x16 : Shape := ⟨3, ![64, 128, 16]⟩
abbrev S64x128x272 : Shape := ⟨3, ![64, 128, 272]⟩
abbrev S2x64x4x272x128x4 : Shape := ⟨6, ![2, 64, 4, 272, 128, 4]⟩
abbrev S2x64x4x4x128x272 : Shape := ⟨6, ![2, 64, 4, 4, 128, 272]⟩
abbrev S1x64x1x1x128x272 : Shape := ⟨6, ![1, 64, 1, 1, 128, 272]⟩
abbrev S4x4x1x1 : Shape := ⟨4, ![4, 4, 1, 1]⟩
abbrev S2x64x4x4x128x1 : Shape := ⟨6, ![2, 64, 4, 4, 128, 1]⟩
abbrev S2x64x4x4x128x273 : Shape := ⟨6, ![2, 64, 4, 4, 128, 273]⟩
abbrev S2x64x4x4x128 : Shape := ⟨5, ![2, 64, 4, 4, 128]⟩
abbrev S2x64x4x64x4x128 : Shape := ⟨6, ![2, 64, 4, 64, 4, 128]⟩
abbrev S16384 : Shape := ⟨1, ![16384]⟩
abbrev S16384x1 : Shape := ⟨2, ![16384, 1]⟩

abbrev nBuf : Space → Nat
  | .hbm => 117
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S16384x256, .bf16⟩
  | .hbm, ⟨2, _⟩ => ⟨S16x256, .bf16⟩
  | .hbm, ⟨3, _⟩ => ⟨S256x16384, .bf16⟩
  | .hbm, ⟨4, _⟩ => ⟨S16x256, .bf16⟩
  | .hbm, ⟨5, _⟩ => ⟨S1x16, .f32⟩
  | .hbm, ⟨6, _⟩ => ⟨S1x1024, .f32⟩
  | .hbm, ⟨7, _⟩ => ⟨S4x4, .f32⟩
  | .hbm, ⟨8, _⟩ => ⟨S1024x16384, .f32⟩
  | .hbm, ⟨9, _⟩ => ⟨S16384x1024, .f32⟩
  | .hbm, ⟨10, _⟩ => ⟨S16384x256, .f32⟩
  | .hbm, ⟨11, _⟩ => ⟨S256x16384, .f32⟩
  | .hbm, ⟨12, _⟩ => ⟨S16384x256, .f32⟩
  | .hbm, ⟨13, _⟩ => ⟨S16x256, .f32⟩
  | .hbm, ⟨14, _⟩ => ⟨S1x16x4x64, .f32⟩
  | .hbm, ⟨15, _⟩ => ⟨S16x256, .f32⟩
  | .hbm, ⟨16, _⟩ => ⟨S1x16x4x64, .f32⟩
  | .hbm, ⟨17, _⟩ => ⟨S2x64x128x4x64, .f32⟩
  | .hbm, ⟨18, _⟩ => ⟨S2x1x128x4x64, .f32⟩
  | .hbm, ⟨19, _⟩ => ⟨S_, .f32⟩
  | .hbm, ⟨20, _⟩ => ⟨S2x1x128x4x64, .f32⟩
  | .hbm, ⟨21, _⟩ => ⟨S2x63x128x4x64, .f32⟩
  | .hbm, ⟨22, _⟩ => ⟨S2x64x128x4x64, .f32⟩
  | .hbm, ⟨23, _⟩ => ⟨S1x1x16x4x64, .f32⟩
  | .hbm, ⟨24, _⟩ => ⟨S2x64x16x4x64, .f32⟩
  | .hbm, ⟨25, _⟩ => ⟨S2x64x272x4x64, .f32⟩
  | .hbm, ⟨26, _⟩ => ⟨S2x64x128x4x64, .f32⟩
  | .hbm, ⟨27, _⟩ => ⟨S2x1x128x4x64, .f32⟩
  | .hbm, ⟨28, _⟩ => ⟨S_, .f32⟩
  | .hbm, ⟨29, _⟩ => ⟨S2x1x128x4x64, .f32⟩
  | .hbm, ⟨30, _⟩ => ⟨S2x63x128x4x64, .f32⟩
  | .hbm, ⟨31, _⟩ => ⟨S2x64x128x4x64, .f32⟩
  | .hbm, ⟨32, _⟩ => ⟨S1x1x16x4x64, .f32⟩
  | .hbm, ⟨33, _⟩ => ⟨S2x64x16x4x64, .f32⟩
  | .hbm, ⟨34, _⟩ => ⟨S2x64x272x4x64, .f32⟩
  | .hbm, ⟨35, _⟩ => ⟨S2x64x128x4x4x64, .f32⟩
  | .hbm, ⟨36, _⟩ => ⟨S128, .i32⟩
  | .hbm, ⟨37, _⟩ => ⟨S128x1, .i32⟩
  | .hbm, ⟨38, _⟩ => ⟨S256, .i32⟩
  | .hbm, ⟨39, _⟩ => ⟨S1x256, .i32⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S128x256, .i1⟩
  | .hbm, ⟨53, _⟩ => ⟨S64, .i32⟩
  | .hbm, ⟨54, _⟩ => ⟨S_, .i32⟩
  | .hbm, ⟨55, _⟩ => ⟨S64, .i32⟩
  | .hbm, ⟨56, _⟩ => ⟨S64, .i1⟩
  | .hbm, ⟨57, _⟩ => ⟨S64x1x1, .i1⟩
  | .hbm, ⟨58, _⟩ => ⟨S1x128x256, .i1⟩
  | .hbm, ⟨59, _⟩ => ⟨S_, .i32⟩
  | .hbm, ⟨60, _⟩ => ⟨S1x256, .i32⟩
  | .hbm, ⟨61, _⟩ => ⟨S1x256, .i1⟩
  | .hbm, ⟨62, _⟩ => ⟨S1x1x256, .i1⟩
  | .hbm, ⟨63, _⟩ => ⟨S64x1x256, .i1⟩
  | .hbm, ⟨64, _⟩ => ⟨S64x1x256, .i1⟩
  | .hbm, ⟨65, _⟩ => ⟨S64x1x256, .i1⟩
  | .hbm, ⟨66, _⟩ => ⟨S64x128x256, .i1⟩
  | .hbm, ⟨67, _⟩ => ⟨S64x128x256, .i1⟩
  | .hbm, ⟨68, _⟩ => ⟨S64x128x256, .i1⟩
  | .hbm, ⟨69, _⟩ => ⟨S_, .i1⟩
  | .hbm, ⟨70, _⟩ => ⟨S64x128x16, .i1⟩
  | .hbm, ⟨71, _⟩ => ⟨S64x128x272, .i1⟩
  | .hbm, ⟨72, _⟩ => ⟨S2x64x4x272x128x4, .f32⟩
  | .hbm, ⟨73, _⟩ => ⟨S2x64x4x4x128x272, .f32⟩
  | .hbm, ⟨74, _⟩ => ⟨S1x64x1x1x128x272, .i1⟩
  | .hbm, ⟨75, _⟩ => ⟨S_, .f32⟩
  | .hbm, ⟨76, _⟩ => ⟨S_, .f32⟩
  | .hbm, ⟨77, _⟩ => ⟨S2x64x4x4x128x272, .i1⟩
  | .hbm, ⟨78, _⟩ => ⟨S2x64x4x4x128x272, .f32⟩
  | .hbm, ⟨79, _⟩ => ⟨S2x64x4x4x128x272, .f32⟩
  | .hbm, ⟨80, _⟩ => ⟨S4x4x1x1, .f32⟩
  | .hbm, ⟨81, _⟩ => ⟨S2x64x4x4x128x1, .f32⟩
  | .hbm, ⟨82, _⟩ => ⟨S2x64x4x4x128x273, .f32⟩
  | .hbm, ⟨83, _⟩ => ⟨S_, .f32⟩
  | .hbm, ⟨84, _⟩ => ⟨S2x64x4x4x128, .f32⟩
  | .hbm, ⟨85, _⟩ => ⟨S_, .f32⟩
  | .hbm, ⟨86, _⟩ => ⟨S2x64x4x4x128, .f32⟩
  | .hbm, ⟨87, _⟩ => ⟨S2x64x4x4x128, .f32⟩
  | .hbm, ⟨88, _⟩ => ⟨S2x64x4x4x128x1, .f32⟩
  | .hbm, ⟨89, _⟩ => ⟨S2x64x4x4x128x273, .f32⟩
  | .hbm, ⟨90, _⟩ => ⟨S2x64x4x4x128x273, .f32⟩
  | .hbm, ⟨91, _⟩ => ⟨S2x64x4x4x128x273, .f32⟩
  | .hbm, ⟨92, _⟩ => ⟨S_, .f32⟩
  | .hbm, ⟨93, _⟩ => ⟨S2x64x4x4x128, .f32⟩
  | .hbm, ⟨94, _⟩ => ⟨S2x64x4x4x128x1, .f32⟩
  | .hbm, ⟨95, _⟩ => ⟨S2x64x4x4x128x273, .f32⟩
  | .hbm, ⟨96, _⟩ => ⟨S2x64x4x4x128x273, .f32⟩
  | .hbm, ⟨97, _⟩ => ⟨S2x64x4x4x128x272, .f32⟩
  | .hbm, ⟨98, _⟩ => ⟨S2x64x4x64x4x128, .f32⟩
  | .hbm, ⟨99, _⟩ => ⟨S2x64x128x4x4x64, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S16384x1024, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S16384x1024, .bf16⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_1 : Ref sig .tc := ⟨.hbm, 46, rfl⟩
abbrev main_v36 : Ref sig .tc := ⟨.hbm, 47, rfl⟩
abbrev main_v37 : Ref sig .tc := ⟨.hbm, 48, rfl⟩
abbrev main_c_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_5 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_9 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_v81 : Ref sig .tc := ⟨.hbm, 104, rfl⟩
abbrev main_cst_11 : Ref sig .tc := ⟨.hbm, 105, rfl⟩
abbrev main_v82 : Ref sig .tc := ⟨.hbm, 106, rfl⟩
abbrev main_v83 : Ref sig .tc := ⟨.hbm, 107, rfl⟩
abbrev main_cst_12 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== ExpertsIdeal.lean ====
abbrev S81920x2048 : Shape := ⟨2, ![81920, 2048]⟩
abbrev S160 : Shape := ⟨1, ![160]⟩
abbrev S1 : Shape := ⟨1, ![1]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S512x2048 : Shape := ⟨2, ![512, 2048]⟩
abbrev S1x2048x1024 : Shape := ⟨3, ![1, 2048, 1024]⟩
abbrev S1x1x1024 : Shape := ⟨3, ![1, 1, 1024]⟩
abbrev S1x512x2048 : Shape := ⟨3, ![1, 512, 2048]⟩
abbrev S1x1x2048 : Shape := ⟨3, ![1, 1, 2048]⟩
abbrev S2048x1024 : Shape := ⟨2, ![2048, 1024]⟩
abbrev S512x1024 : Shape := ⟨2, ![512, 1024]⟩
abbrev S1x1024 : Shape := ⟨2, ![1, 1024]⟩
abbrev S512x512 : Shape := ⟨2, ![512, 512]⟩
abbrev S1x2048 : Shape := ⟨2, ![1, 2048]⟩

abbrev nBuf : Space → Nat
  | .hbm => 6
  | .vmem => 12
  | .smem => 2
  | _ => 0

abbrev bufTy : (tb : Table) → Fin (tcTables nBuf tb) → BufTy
  | .hbm, ⟨0, _⟩ => ⟨S81920x2048, .bf16⟩
  | .hbm, ⟨1, _⟩ => ⟨S32x2048x4096, .bf16⟩
  | .hbm, ⟨2, _⟩ => ⟨S32x1x4096, .f32⟩
  | .hbm, ⟨3, _⟩ => ⟨S32x2048x2048, .f32⟩
  | .hbm, ⟨4, _⟩ => ⟨S32x1x2048, .f32⟩
  | .hbm, ⟨5, _⟩ => ⟨S81920x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .smem, ⟨0, _⟩ => ⟨S160, .i32⟩
  | .local _ .smem, ⟨1, _⟩ => ⟨S1, .i32⟩
  | _, _ => ⟨S81920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![160, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_20 : BitVec 32 := 0#32
  let v38 : BitVec 1 := Scalar.cmpi .eq arg1 c0_i32_20
  let v39 : BitVec 32 := Scalar.extui v38
  let c0_i32_21 : BitVec 32 := 0#32
  let v40 : BitVec 1 := Scalar.cmpi .ne v39 c0_i32_21
  v40

def k0_cond3 (i : grid0.Coords) : BitVec 1 :=
  let arg1 : BitVec 32 := BitVec.ofNat 32 (i 1).val
  let c0_i32_22 : BitVec 32 := 0#32
  let v41 : BitVec 1 := Scalar.cmpi .sgt arg1 c0_i32_22
  let v42 : BitVec 32 := Scalar.extui v41
  let c0_i32_23 : BitVec 32 := 0#32
  let v43 : BitVec 1 := Scalar.cmpi .ne v42 c0_i32_23
  v43

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeIdeal.lean ====
abbrev S81920x2048 : Shape := ⟨2, ![81920, 2048]⟩
abbrev S160 : Shape := ⟨1, ![160]⟩
abbrev S1 : Shape := ⟨1, ![1]⟩
abbrev S32x2048x4096 : Shape := ⟨3, ![32, 2048, 4096]⟩
abbrev S32x1x4096 : Shape := ⟨3, ![32, 1, 4096]⟩
abbrev S32x2048x2048 : Shape := ⟨3, ![32, 2048, 2048]⟩
abbrev S32x1x2048 : Shape := ⟨3, ![32, 1, 2048]⟩
abbrev S160x512x2048 : Shape := ⟨3, ![160, 512, 2048]⟩
abbrev S_ : Shape := ⟨0, ![]⟩
abbrev S160x1 : Shape := ⟨2, ![160, 1]⟩
abbrev S160x2048x4096 : Shape := ⟨3, ![160, 2048, 4096]⟩
abbrev S160x512x4096 : Shape := ⟨3, ![160, 512, 4096]⟩
abbrev S160x1x4096 : Shape := ⟨3, ![160, 1, 4096]⟩
abbrev S160x512x4x2x512 : Shape := ⟨5, ![160, 512, 4, 2, 512]⟩
abbrev S160x512x4x1x512 : Shape := ⟨5, ![160, 512, 4, 1, 512]⟩
abbrev S160x512x4x512 : Shape := ⟨4, ![160, 512, 4, 512]⟩
abbrev S160x2048x2048 : Shape := ⟨3, ![160, 2048, 2048]⟩
abbrev S160x1x2048 : Shape := ⟨3, ![160, 1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S81920x2048, .bf16⟩
  | .hbm, ⟨1, _⟩ => ⟨S160, .i32⟩
  | .hbm, ⟨2, _⟩ => ⟨S1, .i32⟩
  | .hbm, ⟨3, _⟩ => ⟨S32x2048x4096, .bf16⟩
  | .hbm, ⟨4, _⟩ => ⟨S32x1x4096, .f32⟩
  | .hbm, ⟨5, _⟩ => ⟨S32x2048x2048, .f32⟩
  | .hbm, ⟨6, _⟩ => ⟨S32x1x2048, .f32⟩
  | .hbm, ⟨7, _⟩ => ⟨S81920x2048, .f32⟩
  | .hbm, ⟨8, _⟩ => ⟨S160x512x2048, .f32⟩
  | .hbm, ⟨9, _⟩ => ⟨S32x2048x4096, .f32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S_, .i32⟩
  | .hbm, ⟨14, _⟩ => ⟨S160, .i32⟩
  | .hbm, ⟨15, _⟩ => ⟨S160, .i32⟩
  | .hbm, ⟨16, _⟩ => ⟨S160, .i32⟩
  | .hbm, ⟨17, _⟩ => ⟨S160x1, .i32⟩
  | .hbm, ⟨18, _⟩ => ⟨S160x2048x4096, .f32⟩
  | .hbm, ⟨19, _⟩ => ⟨S160x512x4096, .f32⟩
  | .hbm, ⟨20, _⟩ => ⟨S_, .i32⟩
  | .hbm, ⟨21, _⟩ => ⟨S160, .i32⟩
  | .hbm, ⟨22, _⟩ => ⟨S160, .i1⟩
  | .hbm, ⟨23, _⟩ => ⟨S_, .i32⟩
  | .hbm, ⟨24, _⟩ => ⟨S160, .i32⟩
  | .hbm, ⟨25, _⟩ => ⟨S160, .i32⟩
  | .hbm, ⟨26, _⟩ => ⟨S160, .i32⟩
  | .hbm, ⟨27, _⟩ => ⟨S160x1, .i32⟩
  | .hbm, ⟨28, _⟩ => ⟨S160x1x4096, .f32⟩
  | .hbm, ⟨29, _⟩ => ⟨S160x512x4096, .f32⟩
  | .hbm, ⟨30, _⟩ => ⟨S160x512x4096, .f32⟩
  | .hbm, ⟨31, _⟩ => ⟨S160x512x4x2x512, .f32⟩
  | .hbm, ⟨32, _⟩ => ⟨S160x512x4x1x512, .f32⟩
  | .hbm, ⟨33, _⟩ => ⟨S160x512x4x512, .f32⟩
  | .hbm, ⟨34, _⟩ => ⟨S160x512x2048, .f32⟩
  | .hbm, ⟨35, _⟩ => ⟨S160x512x4x1x512, .f32⟩
  | .hbm, ⟨36, _⟩ => ⟨S160x512x4x512, .f32⟩
  | .hbm, ⟨37, _⟩ => ⟨S160x512x2048, .f32⟩
  | .hbm, ⟨38, _⟩ => ⟨S_, .f32⟩
  | .hbm, ⟨39, _⟩ => ⟨S160x512x2048, .f32⟩
  | .hbm, ⟨40, _⟩ => ⟨S160x512x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S160x512x2048, .f32⟩
  | .hbm, ⟨45, _⟩ => ⟨S160x512x2048, .f32⟩
  | .hbm, ⟨46, _⟩ => ⟨S_, .f32⟩
  | .hbm, ⟨47, _⟩ => ⟨S160x512x2048, .f32⟩
  | .hbm, ⟨48, _⟩ => ⟨S160x512x2048, .f32⟩
  | .hbm, ⟨49, _⟩ => ⟨S_, .f32⟩
  | .hbm, ⟨50, _⟩ => ⟨S160x512x2048, .f32⟩
  | .hbm, ⟨51, _⟩ => ⟨S160x512x2048, .f32⟩
  | .hbm, ⟨52, _⟩ => ⟨S160x512x2048, .f32⟩
  | .hbm, ⟨53, _⟩ => ⟨S160x512x2048, .f32⟩
  | .hbm, ⟨54, _⟩ => ⟨S_, .f32⟩
  | .hbm, ⟨55, _⟩ => ⟨S160x512x2048, .f32⟩
  | .hbm, ⟨56, _⟩ => ⟨S160x512x2048, .f32⟩
  | .hbm, ⟨57, _⟩ => ⟨S_, .f32⟩
  | .hbm, ⟨58, _⟩ => ⟨S160x512x2048, .f32⟩
  | .hbm, ⟨59, _⟩ => ⟨S160x512x2048, .f32⟩
  | .hbm, ⟨60, _⟩ => ⟨S160x512x2048, .f32⟩
  | .hbm, ⟨61, _⟩ => ⟨S_, .f32⟩
  | .hbm, ⟨62, _⟩ => ⟨S160x512x2048, .f32⟩
  | .hbm, ⟨63, _⟩ => ⟨S160x512x2048, .f32⟩
  | .hbm, ⟨64, _⟩ => ⟨S160x512x2048, .f32⟩
  | .hbm, ⟨65, _⟩ => ⟨S_, .i32⟩
  | .hbm, ⟨66, _⟩ => ⟨S160, .i32⟩
  | .hbm, ⟨67, _⟩ => ⟨S160, .i1⟩
  | .hbm, ⟨68, _⟩ => ⟨S_, .i32⟩
  | .hbm, ⟨69, _⟩ => ⟨S160, .i32⟩
  | .hbm, ⟨70, _⟩ => ⟨S160, .i32⟩
  | .hbm, ⟨71, _⟩ => ⟨S160, .i32⟩
  | .hbm, ⟨72, _⟩ => ⟨S160x1, .i32⟩
  | .hbm, ⟨73, _⟩ => ⟨S160x2048x2048, .f32⟩
  | .hbm, ⟨74, _⟩ => ⟨S160x512x2048, .f32⟩
  | .hbm, ⟨75, _⟩ => ⟨S_, .i32⟩
  | .hbm, ⟨76, _⟩ => ⟨S160, .i32⟩
  | .hbm, ⟨77, _⟩ => ⟨S160, .i1⟩
  | .hbm, ⟨78, _⟩ => ⟨S_, .i32⟩
  | .hbm, ⟨79, _⟩ => ⟨S160, .i32⟩
  | .hbm, ⟨80, _⟩ => ⟨S160, .i32⟩
  | .hbm, ⟨81, _⟩ => ⟨S160, .i32⟩
  | .hbm, ⟨82, _⟩ => ⟨S160x1, .i32⟩
  | .hbm, ⟨83, _⟩ => ⟨S160x1x2048, .f32⟩
  | .hbm, ⟨84, _⟩ => ⟨S160x512x2048, .f32⟩
  | .hbm, ⟨85, _⟩ => ⟨S160x512x2048, .f32⟩
  | .hbm, ⟨86, _⟩ => ⟨S81920x2048, .f32⟩
  | _, _ => ⟨S81920x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== Proof.Softmax.lean ====
module

public import Idealize.ShloMosaic.Lib.Pointwise

@[expose] public section
noncomputable section
open Idealize.ShloMosaic
namespace Banded

/-- The largest of the scores `s` and the sink `x`: what is taken off every score before the
exponential. -/
def top {n : ℕ} (s : Fin n → EReal) (x : EReal) : EReal :=
  max (Finset.fold max (Ideal.ofBits FTy.f32 4286578688#32) s Finset.univ) x

/-- The weighted sum of the values `v` by the unnormalised weights of the scores `s`, times the
reciprocal of the sum of the weights, the sink `x` counted in that sum only. -/
def attend {n : ℕ} (s : Fin n → EReal) (x : EReal) (v : Fin n → EReal) : EReal :=
  (∑ k, v k * Ideal.exp (s k - top s x)) *
    Ideal.div 1 (∑ k, Ideal.exp (s k - top s x) + Ideal.exp (x - top s x))

end Banded
end
end
-- ==== Proof.Heads.lean ====
module

public import proofs.«01_k».proof.Proof.Gen.KernelIdeal.Skeleton
public import proofs.«01_k».proof.Proof.Softmax
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
namespace Cert.KernelIdeal.Block
open Cert.KernelIdeal Cert.KernelIdeal.Gen Banded

/-- The four query heads of one key-value head at one of the two query blocks: the outputs, 64
channels by four heads of 128 queries. The two numbers only name the block and the head. -/
def heads (sub : Fin 2) (hk : Fin 4) (b : FVec Ideal S272x512 .f32) (kt : FVec Ideal S272x128 .bf16)
    (vt : FVec Ideal S64x272 .bf16) (s : FVec Ideal S1x512 .f32) (q : FVec Ideal S128x512 .bf16) :
    FVec Ideal S64x512 .f32 :=
  k0_pay44 (F := Ideal) b kt vt s q

/-- The queries of four heads, each below 64 rows of zeros. -/
def queriesLow (z q0 q1 q2 q3 : FVec Ideal S64x128 .bf16) : FVec Ideal S128x512 .bf16 :=
  concatenate S128x512 1
    [⟨S128x128, concatenate S128x128 0 [⟨S64x128, z⟩, ⟨S64x128, q0⟩] concatenates_S64x128_S64x128_S128x128_d0⟩,
     ⟨S128x128, concatenate S128x128 0 [⟨S64x128, z⟩, ⟨S64x128, q1⟩] concatenates_S64x128_S64x128_S128x128_d0⟩,
     ⟨S128x128, concatenate S128x128 0 [⟨S64x128, z⟩, ⟨S64x128, q2⟩] concatenates_S64x128_S64x128_S128x128_d0⟩,
     ⟨S128x128, concatenate S128x128 0 [⟨S64x128, z⟩, ⟨S64x128, q3⟩] concatenates_S64x128_S64x128_S128x128_d0⟩]
    concatenates_S128x128_S128x128_S128x128_S128x128_S128x512_d1

section Forms
variable (z : FVec Ideal S64x128 .bf16) (b : FVec Ideal S272x512 .f32)
  (kp ko : FVec Ideal S128x128 .bf16) (km : FVec Ideal S16x128 .bf16)
  (kt : FVec Ideal S272x128 .bf16) (vt : FVec Ideal S64x272 .bf16)
  (vp vo : FVec Ideal S64x128 .bf16) (vm : FVec Ideal S64x16 .bf16)
  (q0 q1 q2 q3 : FVec Ideal S64x128 .bf16) (s0 s1 s2 s3 : FVec Ideal S1x1 .f32)

/-- Block 0, key-value head 0. -/
theorem form00 :
    k0_pay13 (F := Ideal) (k0_pay11 z b kt vt q0 s0 q1 s1 q2 s2 q3 s3)
        (k0_pay12 z b kt q0 s0 q1 s1 q2 s2 q3 s3) =
      heads 0 0 b kt vt (k0_pay42 s0 s1 s2 s3) (k0_pay43 z q0 q1 q2 q3) := rfl

/-- Block 0, key-value head 1. -/
theorem form01 :
    k0_pay28 (F := Ideal) vt (k0_pay24 s0 s1 s2 s3)
        (k0_pay26 z b kp ko km q0 s0 q1 s1 q2 s2 q3 s3) (k0_pay27 z b kp ko km q0 s0 q1 s1 q2 s2 q3 s3) =
      heads 0 1 b (k0_pay40 kp ko km) vt (k0_pay42 s0 s1 s2 s3) (queriesLow z q0 q1 q2 q3) := rfl

/-- Block 0, key-value head 2. -/
theorem form02 :
    k0_pay44 (F := Ideal) b kt vt (k0_pay42 s0 s1 s2 s3) (k0_pay43 z q0 q1 q2 q3) =
      heads 0 2 b kt vt (k0_pay42 s0 s1 s2 s3) (k0_pay43 z q0 q1 q2 q3) := rfl

/-- Block 0, key-value head 3. -/
theorem form03 :
    k0_pay63 (F := Ideal) z b kt vt (k0_pay57 z q0) (k0_pay58 s0) (k0_pay59 z q1) (k0_pay60 s1)
        (k0_pay61 z q2) (k0_pay62 s2) q3 s3 =
      heads 0 3 b kt vt (k0_pay42 s0 s1 s2 s3) (queriesLow z q0 q1 q2 q3) := rfl

/-- Block 1, key-value head 0. -/
theorem form10 :
    k0_pay80 (F := Ideal) vt (k0_pay77 s0 s1 s2 s3) (k0_pay78 z b kp ko km q0 q1 q2 q3)
        (k0_pay79 z b kp ko km q0 q1 q2 q3) =
      heads 1 0 b (k0_pay40 kp ko km) vt (k0_pay42 s0 s1 s2 s3) (k0_pay43 z q0 q1 q2 q3) := rfl

/-- Block 1, key-value head 1. -/
theorem form11 :
    k0_pay100 (F := Ideal) b kt vt (k0_pay93 z q0) (k0_pay94 s0) (k0_pay95 z q1) (k0_pay96 s1)
        (k0_pay97 z q2) (k0_pay98 s2) (k0_pay99 z q3) s3 =
      heads 1 1 b kt vt (k0_pay42 s0 s1 s2 s3) (queriesLow z q0 q1 q2 q3) := rfl

/-- Block 1, key-value head 2. -/
theorem form12 :
    k0_pay117 (F := Ideal) z b kt vt (k0_pay113 z q0) (k0_pay114 s0) (k0_pay115 z q1) (k0_pay116 s1)
        q2 s2 q3 s3 =
      heads 1 2 b kt vt (k0_pay42 s0 s1 s2 s3) (k0_pay43 z q0 q1 q2 q3) := rfl

/-- Block 1, key-value head 3. -/
theorem form13 :
    k0_pay132 (F := Ideal) z b kt vt (k0_pay130 z q0) (k0_pay131 s0) q1 s1 q2 s2 q3 s3 =
      heads 1 3 b kt vt (k0_pay42 s0 s1 s2 s3) (queriesLow z q0 q1 q2 q3) := rfl
end Forms

section Spec
variable (x0 : FVec Ideal S1024x256 .bf16) (x1 : FVec Ideal S128x256 .bf16)
  (x2 : FVec Ideal S256x256 .bf16) (x3 : FVec Ideal S16x256 .bf16)
  (x4 : FVec Ideal S256x128 .bf16) (x5 : FVec Ideal S256x256 .bf16) (x6 : FVec Ideal S256x16 .bf16)
  (x7 : FVec Ideal S1x16 .f32)

/-- The keys that block `sub` of a grid point sees, in the kernel's order: the 128 before the
block, the block's own 128, then the 16 shared ones. -/
def keyAt (sub : Fin 2) (k : Fin 272) (c : Fin 256) : EReal :=
  if h : k.val < 128 then
    (if sub.val = 0 then x1 (ix2 ⟨k.val, h⟩ c) else x2 (ix2 ⟨k.val, by omega⟩ c))
  else if h' : k.val - 128 < 128 then x2 (ix2 ⟨128 * sub.val + (k.val - 128), by omega⟩ c)
  else x3 (ix2 ⟨k.val - 128 - 128, by omega⟩ c)

/-- The values belonging to the same keys. -/
def valAt (sub : Fin 2) (k : Fin 272) (c : Fin 256) : EReal :=
  if h : k.val < 128 then
    (if sub.val = 0 then x4 (ix2 c ⟨k.val, h⟩) else x5 (ix2 c ⟨k.val, by omega⟩))
  else if h' : k.val - 128 < 128 then x5 (ix2 c ⟨128 * sub.val + (k.val - 128), by omega⟩)
  else x6 (ix2 c ⟨k.val - 128 - 128, by omega⟩)

/-- By how much the first block of all shifts what it may see of the block before it: out of sight. -/
def lead (n : ℕ) (sub : Fin 2) : ℕ := if sub.val = 0 ∧ n = 0 then 128 else 0

/-- Which keys query `j` of a block sees: the shared ones, its own block's up to itself, and the
previous block's after `j`, none where there is no previous block. -/
abbrev Seen (n : ℕ) (sub : Fin 2) (k : Fin 272) (j : Fin 128) : Prop :=
  (256 ≤ k.val ∨ (128 ≤ k.val ∧ k.val - 128 ≤ j.val)) ∨
    (k.val < 128 ∧ j.val + lead n sub < k.val)

/-- What is added to a score: nothing where the key is seen, minus infinity elsewhere. -/
def biasAt (n : ℕ) (sub : Fin 2) (k : Fin 272) (j : Fin 128) : EReal :=
  if Seen n sub k j then 0 else ⊥

/-- The score of key `k` for query `j` of head `g` of the key-value head `hk`. -/
def scoreAt (n : ℕ) (sub : Fin 2) (hk g : Fin 4) (j : Fin 128) (k : Fin 272) : EReal :=
  ∑ e : Fin 64, keyAt x1 x2 x3 sub k ⟨64 * hk.val + e.val, by omega⟩ *
      x0 (ix2 ⟨64 * (4 * hk.val + g.val) + e.val, by omega⟩ ⟨128 * sub.val + j.val, by omega⟩)
    + biasAt n sub k j

/-- Channel `d` of the output of head `g` of the key-value head `hk` at query `j`. -/
def headAt (n : ℕ) (sub : Fin 2) (hk g : Fin 4) (j : Fin 128) (d : Fin 64) : EReal :=
  attend (scoreAt x0 x1 x2 x3 n sub hk g j) (x7 (ix2 0 ⟨4 * hk.val + g.val, by omega⟩))
    (fun k => valAt x4 x5 x6 sub k ⟨64 * hk.val + d.val, by omega⟩)

/-- Half of the rows of the padded queries are zeros, so the contraction over 128 channels is the
one over the head's own 64. -/
theorem contract (hk g : Fin 4) (sub : Fin 2) (j : Fin 128) (k : Fin 272)
    (kt : Fin 128 → EReal) (q : Fin 128 → EReal)
    (hkt : ∀ e : Fin 128, kt e = keyAt x1 x2 x3 sub k ⟨128 * (hk.val / 2) + e.val, by omega⟩)
    (hq : ∀ e : Fin 128, q e = if e.val / 64 = hk.val % 2 then
      x0 (ix2 ⟨64 * (4 * hk.val + g.val) + e.val % 64, by omega⟩ ⟨128 * sub.val + j.val, by omega⟩) else 0) :
    ∑ e : Fin 128, kt e * q e =
      ∑ e : Fin 64, keyAt x1 x2 x3 sub k ⟨64 * hk.val + e.val, by omega⟩ *
        x0 (ix2 ⟨64 * (4 * hk.val + g.val) + e.val, by omega⟩ ⟨128 * sub.val + j.val, by omega⟩) := by
  rw [Fin.sum_univ_two_halves 64 64 rfl]
  rcases Nat.mod_two_eq_zero_or_one hk.val with h | h
  · rw [Finset.sum_eq_zero (s := Finset.univ) (f := fun t : Fin 64 => kt ⟨64 + t.val, _⟩ * q ⟨64 + t.val, _⟩), add_zero]
    · refine Finset.sum_congr rfl fun e _ => ?_
      rw [hkt, hq, if_pos (by have := e.isLt; simp only; omega)]
      congr 2 <;> (try congr 1) <;> (try apply Fin.ext) <;> (try simp only) <;> (try omega)
    · intro e _
      rw [hq, if_neg (by have := e.isLt; simp only; omega), mul_zero]
  · rw [Finset.sum_eq_zero (s := Finset.univ) (f := fun t : Fin 64 => kt ⟨t.val, _⟩ * q ⟨t.val, _⟩), zero_add]
    · refine Finset.sum_congr rfl fun e _ => ?_
      rw [hkt, hq, if_pos (by have := e.isLt; simp only; omega)]
      congr 2 <;> (try congr 1) <;> (try apply Fin.ext) <;> (try simp only) <;> (try omega)
    · intro e _
      rw [hq, if_neg (by have := e.isLt; simp only; omega), mul_zero]

/-- The outputs of the four heads, from what their keys, values, sinks, queries and masks are. -/
theorem heads_at (n : ℕ) (sub : Fin 2) (hk : Fin 4)
    (b : FVec Ideal S272x512 .f32) (kt : FVec Ideal S272x128 .bf16)
    (vt : FVec Ideal S64x272 .bf16) (s : FVec Ideal S1x512 .f32) (q : FVec Ideal S128x512 .bf16)
    (hb : ∀ (k : Fin 272) (g : Fin 4) (j : Fin 128),
      b (ix2 k ⟨128 * g.val + j.val, by omega⟩) = biasAt n sub k j)
    (hkt : ∀ (k : Fin 272) (e : Fin 128),
      kt (ix2 k e) = keyAt x1 x2 x3 sub k ⟨128 * (hk.val / 2) + e.val, by omega⟩)
    (hv : ∀ (d : Fin 64) (k : Fin 272),
      vt (ix2 d k) = valAt x4 x5 x6 sub k ⟨64 * hk.val + d.val, by omega⟩)
    (hs : ∀ (g : Fin 4) (j : Fin 128),
      s (ix2 0 ⟨128 * g.val + j.val, by omega⟩) = x7 (ix2 0 ⟨4 * hk.val + g.val, by omega⟩))
    (hq : ∀ (e : Fin 128) (g : Fin 4) (j : Fin 128),
      q (ix2 e ⟨128 * g.val + j.val, by omega⟩) = if e.val / 64 = hk.val % 2 then
        x0 (ix2 ⟨64 * (4 * hk.val + g.val) + e.val % 64, by omega⟩ ⟨128 * sub.val + j.val, by omega⟩) else 0)
    (d : Fin 64) (g : Fin 4) (j : Fin 128) :
    heads sub hk b kt vt s q (ix2 d ⟨128 * g.val + j.val, by omega⟩) =
      headAt x0 x1 x2 x3 x4 x5 x6 x7 n sub hk g j d := by
  have e : ∀ k : Fin 272, (∑ x : Fin 128, kt (ix2 k x) * q (ix2 x ⟨128 * g.val + j.val, by omega⟩)) +
      b (ix2 k ⟨128 * g.val + j.val, by omega⟩) = scoreAt x0 x1 x2 x3 n sub hk g j k := by
    intro k
    unfold scoreAt
    rw [hb, contract x0 x1 x2 x3 hk g sub j k (fun x => kt (ix2 k x)) _ (hkt k) (fun x => hq x g j)]
  unfold headAt attend top heads
  pointwise [k0_pay44]
  simp only [e, hs, hv]

/-- The outputs of four heads side by side, as one array. -/
def outsOf (n : ℕ) (sub : Fin 2) (hk : Fin 4) : FVec Ideal S64x512 .f32 := fun i =>
  headAt x0 x1 x2 x3 x4 x5 x6 x7 n sub hk ⟨(i 1).val / 128, by have h : (i 1).val < 512 := (i 1).isLt; omega⟩
    ⟨(i 1).val % 128, by omega⟩ ⟨(i 0).val, (i 0).isLt⟩

/-- The same for the whole array. -/
theorem heads_eq (n : ℕ) (sub : Fin 2) (hk : Fin 4)
    (b : FVec Ideal S272x512 .f32) (kt : FVec Ideal S272x128 .bf16)
    (vt : FVec Ideal S64x272 .bf16) (s : FVec Ideal S1x512 .f32) (q : FVec Ideal S128x512 .bf16)
    (hb : ∀ (k : Fin 272) (g : Fin 4) (j : Fin 128),
      b (ix2 k ⟨128 * g.val + j.val, by omega⟩) = biasAt n sub k j)
    (hkt : ∀ (k : Fin 272) (e : Fin 128),
      kt (ix2 k e) = keyAt x1 x2 x3 sub k ⟨128 * (hk.val / 2) + e.val, by omega⟩)
    (hv : ∀ (d : Fin 64) (k : Fin 272),
      vt (ix2 d k) = valAt x4 x5 x6 sub k ⟨64 * hk.val + d.val, by omega⟩)
    (hs : ∀ (g : Fin 4) (j : Fin 128),
      s (ix2 0 ⟨128 * g.val + j.val, by omega⟩) = x7 (ix2 0 ⟨4 * hk.val + g.val, by omega⟩))
    (hq : ∀ (e : Fin 128) (g : Fin 4) (j : Fin 128),
      q (ix2 e ⟨128 * g.val + j.val, by omega⟩) = if e.val / 64 = hk.val % 2 then
        x0 (ix2 ⟨64 * (4 * hk.val + g.val) + e.val % 64, by omega⟩ ⟨128 * sub.val + j.val, by omega⟩) else 0) :
    heads sub hk b kt vt s q = outsOf x0 x1 x2 x3 x4 x5 x6 x7 n sub hk := by
  funext i
  idx_vars i
  have h := heads_at x0 x1 x2 x3 x4 x5 x6 x7 n sub hk b kt vt s q hb hkt hv hs hq i0
    ⟨i1.val / 128, by omega⟩ ⟨i1.val % 128, by omega⟩
  have e : (⟨128 * (i1.val / 128) + i1.val % 128, by omega⟩ : Fin 512) = i1 :=
    Fin.ext (by simp only; omega)
  simp only [e] at h
  exact h

/-- The outputs of the four heads of an even key-value head, from the loaded vectors. -/
theorem heads_even (n : ℕ) (sub : Fin 2) (hk : Fin 4) (hpar : hk.val % 2 = 0)
    (b : FVec Ideal S272x512 .f32) (kt : FVec Ideal S272x128 .bf16)
    (vt : FVec Ideal S64x272 .bf16) (s0 s1 s2 s3 : FVec Ideal S1x1 .f32)
    (q0 q1 q2 q3 : FVec Ideal S64x128 .bf16)
    (hb : ∀ (k : Fin 272) (g : Fin 4) (j : Fin 128),
      b (ix2 k ⟨128 * g.val + j.val, by omega⟩) = biasAt n sub k j)
    (hkt : ∀ (k : Fin 272) (e : Fin 128),
      kt (ix2 k e) = keyAt x1 x2 x3 sub k ⟨128 * (hk.val / 2) + e.val, by omega⟩)
    (hv : ∀ (d : Fin 64) (k : Fin 272),
      vt (ix2 d k) = valAt x4 x5 x6 sub k ⟨64 * hk.val + d.val, by omega⟩)
    (hs0 : s0 (ix2 0 0) = x7 (ix2 0 ⟨4 * hk.val + 0, by omega⟩))
    (hs1 : s1 (ix2 0 0) = x7 (ix2 0 ⟨4 * hk.val + 1, by omega⟩))
    (hs2 : s2 (ix2 0 0) = x7 (ix2 0 ⟨4 * hk.val + 2, by omega⟩))
    (hs3 : s3 (ix2 0 0) = x7 (ix2 0 ⟨4 * hk.val + 3, by omega⟩))
    (hq0 : ∀ (d : Fin 64) (j : Fin 128), q0 (ix2 d j) =
      x0 (ix2 ⟨64 * (4 * hk.val + 0) + d.val, by omega⟩ ⟨128 * sub.val + j.val, by omega⟩))
    (hq1 : ∀ (d : Fin 64) (j : Fin 128), q1 (ix2 d j) =
      x0 (ix2 ⟨64 * (4 * hk.val + 1) + d.val, by omega⟩ ⟨128 * sub.val + j.val, by omega⟩))
    (hq2 : ∀ (d : Fin 64) (j : Fin 128), q2 (ix2 d j) =
      x0 (ix2 ⟨64 * (4 * hk.val + 2) + d.val, by omega⟩ ⟨128 * sub.val + j.val, by omega⟩))
    (hq3 : ∀ (d : Fin 64) (j : Fin 128), q3 (ix2 d j) =
      x0 (ix2 ⟨64 * (4 * hk.val + 3) + d.val, by omega⟩ ⟨128 * sub.val + j.val, by omega⟩)) :
    heads sub hk b kt vt (k0_pay42 s0 s1 s2 s3) (k0_pay43 (F := Ideal) k0_pay2 q0 q1 q2 q3) =
      outsOf x0 x1 x2 x3 x4 x5 x6 x7 n sub hk := by
  refine heads_eq x0 x1 x2 x3 x4 x5 x6 x7 n sub hk b kt vt _ _ hb hkt hv ?_ ?_
  · intro g j
    pointwise [k0_pay42]
    rcases (by omega : g.val = 0 ∨ g.val = 1 ∨ g.val = 2 ∨ g.val = 3) with h | h | h | h <;>
      simp only [h]
    · rw [dif_pos (by omega)]
      exact hs0
    · rw [dif_neg (by omega), dif_pos (by omega)]
      exact hs1
    · rw [dif_neg (by omega), dif_neg (by omega), dif_pos (by omega)]
      exact hs2
    · rw [dif_neg (by omega), dif_neg (by omega), dif_neg (by omega)]
      exact hs3
  · intro e g j
    rw [hpar]
    pointwise [k0_pay43, queriesLow, k0_pay2]
    rcases (by omega : g.val = 0 ∨ g.val = 1 ∨ g.val = 2 ∨ g.val = 3) with h | h | h | h <;>
      simp only [h]
    · rw [dif_pos (by omega)]
      by_cases he : e.val < 64
      · rw [dif_pos he]
        refine (hq0 _ _).trans (Eq.trans (congrArg x0 ?_) (if_pos (by omega)).symm)
        refine (ix2_inj ..).2 ⟨Fin.ext ?_, Fin.ext ?_⟩ <;> simp only <;> omega
      · rw [dif_neg he]
        exact (if_neg (by omega)).symm
    · rw [dif_neg (by omega), dif_pos (by omega)]
      by_cases he : e.val < 64
      · rw [dif_pos he]
        refine (hq1 _ _).trans (Eq.trans (congrArg x0 ?_) (if_pos (by omega)).symm)
        refine (ix2_inj ..).2 ⟨Fin.ext ?_, Fin.ext ?_⟩ <;> simp only <;> omega
      · rw [dif_neg he]
        exact (if_neg (by omega)).symm
    · rw [dif_neg (by omega), dif_neg (by omega), dif_pos (by omega)]
      by_cases he : e.val < 64
      · rw [dif_pos he]
        refine (hq2 _ _).trans (Eq.trans (congrArg x0 ?_) (if_pos (by omega)).symm)
        refine (ix2_inj ..).2 ⟨Fin.ext ?_, Fin.ext ?_⟩ <;> simp only <;> omega
      · rw [dif_neg he]
        exact (if_neg (by omega)).symm
    · rw [dif_neg (by omega), dif_neg (by omega), dif_neg (by omega)]
      by_cases he : e.val < 64
      · rw [dif_pos he]
        refine (hq3 _ _).trans (Eq.trans (congrArg x0 ?_) (if_pos (by omega)).symm)
        refine (ix2_inj ..).2 ⟨Fin.ext ?_, Fin.ext ?_⟩ <;> simp only <;> omega
      · rw [dif_neg he]
        exact (if_neg (by omega)).symm

/-- The outputs of the four heads of an odd key-value head, from the loaded vectors. -/
theorem heads_odd (n : ℕ) (sub : Fin 2) (hk : Fin 4) (hpar : hk.val % 2 = 1)
    (b : FVec Ideal S272x512 .f32) (kt : FVec Ideal S272x128 .bf16)
    (vt : FVec Ideal S64x272 .bf16) (s0 s1 s2 s3 : FVec Ideal S1x1 .f32)
    (q0 q1 q2 q3 : FVec Ideal S64x128 .bf16)
    (hb : ∀ (k : Fin 272) (g : Fin 4) (j : Fin 128),
      b (ix2 k ⟨128 * g.val + j.val, by omega⟩) = biasAt n sub k j)
    (hkt : ∀ (k : Fin 272) (e : Fin 128),
      kt (ix2 k e) = keyAt x1 x2 x3 sub k ⟨128 * (hk.val / 2) + e.val, by omega⟩)
    (hv : ∀ (d : Fin 64) (k : Fin 272),
      vt (ix2 d k) = valAt x4 x5 x6 sub k ⟨64 * hk.val + d.val, by omega⟩)
    (hs0 : s0 (ix2 0 0) = x7 (ix2 0 ⟨4 * hk.val + 0, by omega⟩))
    (hs1 : s1 (ix2 0 0) = x7 (ix2 0 ⟨4 * hk.val + 1, by omega⟩))
    (hs2 : s2 (ix2 0 0) = x7 (ix2 0 ⟨4 * hk.val + 2, by omega⟩))
    (hs3 : s3 (ix2 0 0) = x7 (ix2 0 ⟨4 * hk.val + 3, by omega⟩))
    (hq0 : ∀ (d : Fin 64) (j : Fin 128), q0 (ix2 d j) =
      x0 (ix2 ⟨64 * (4 * hk.val + 0) + d.val, by omega⟩ ⟨128 * sub.val + j.val, by omega⟩))
    (hq1 : ∀ (d : Fin 64) (j : Fin 128), q1 (ix2 d j) =
      x0 (ix2 ⟨64 * (4 * hk.val + 1) + d.val, by omega⟩ ⟨128 * sub.val + j.val, by omega⟩))
    (hq2 : ∀ (d : Fin 64) (j : Fin 128), q2 (ix2 d j) =
      x0 (ix2 ⟨64 * (4 * hk.val + 2) + d.val, by omega⟩ ⟨128 * sub.val + j.val, by omega⟩))
    (hq3 : ∀ (d : Fin 64) (j : Fin 128), q3 (ix2 d j) =
      x0 (ix2 ⟨64 * (4 * hk.val + 3) + d.val, by omega⟩ ⟨128 * sub.val + j.val, by omega⟩)) :
    heads sub hk b kt vt (k0_pay42 s0 s1 s2 s3) (queriesLow k0_pay2 q0 q1 q2 q3) =
      outsOf x0 x1 x2 x3 x4 x5 x6 x7 n sub hk := by
  refine heads_eq x0 x1 x2 x3 x4 x5 x6 x7 n sub hk b kt vt _ _ hb hkt hv ?_ ?_
  · intro g j
    pointwise [k0_pay42]
    rcases (by omega : g.val = 0 ∨ g.val = 1 ∨ g.val = 2 ∨ g.val = 3) with h | h | h | h <;>
      simp only [h]
    · rw [dif_pos (by omega)]
      exact hs0
    · rw [dif_neg (by omega), dif_pos (by omega)]
      exact hs1
    · rw [dif_neg (by omega), dif_neg (by omega), dif_pos (by omega)]
      exact hs2
    · rw [dif_neg (by omega), dif_neg (by omega), dif_neg (by omega)]
      exact hs3
  · intro e g j
    rw [hpar]
    pointwise [k0_pay43, queriesLow, k0_pay2]
    rcases (by omega : g.val = 0 ∨ g.val = 1 ∨ g.val = 2 ∨ g.val = 3) with h | h | h | h <;>
      simp only [h]
    · rw [dif_pos (by omega)]
      by_cases he : e.val < 64
      · rw [dif_pos he]
        exact (if_neg (by omega)).symm
      · rw [dif_neg he]
        refine (hq0 _ _).trans (Eq.trans (congrArg x0 ?_) (if_pos (by omega)).symm)
        refine (ix2_inj ..).2 ⟨Fin.ext ?_, Fin.ext ?_⟩ <;> simp only <;> omega
    · rw [dif_neg (by omega), dif_pos (by omega)]
      by_cases he : e.val < 64
      · rw [dif_pos he]
        exact (if_neg (by omega)).symm
      · rw [dif_neg he]
        refine (hq1 _ _).trans (Eq.trans (congrArg x0 ?_) (if_pos (by omega)).symm)
        refine (ix2_inj ..).2 ⟨Fin.ext ?_, Fin.ext ?_⟩ <;> simp only <;> omega
    · rw [dif_neg (by omega), dif_neg (by omega), dif_pos (by omega)]
      by_cases he : e.val < 64
      · rw [dif_pos he]
        exact (if_neg (by omega)).symm
      · rw [dif_neg he]
        refine (hq2 _ _).trans (Eq.trans (congrArg x0 ?_) (if_pos (by omega)).symm)
        refine (ix2_inj ..).2 ⟨Fin.ext ?_, Fin.ext ?_⟩ <;> simp only <;> omega
    · rw [dif_neg (by omega), dif_neg (by omega), dif_neg (by omega)]
      by_cases he : e.val < 64
      · rw [dif_pos he]
        exact (if_neg (by omega)).symm
      · rw [dif_neg he]
        refine (hq3 _ _).trans (Eq.trans (congrArg x0 ?_) (if_pos (by omega)).symm)
        refine (ix2_inj ..).2 ⟨Fin.ext ?_, Fin.ext ?_⟩ <;> simp only <;> omega

/-- Channel `l` of the 1024 channels of a query's output. -/
def chanAt (n : ℕ) (sub : Fin 2) (l : Fin 1024) (j : Fin 128) : EReal :=
  headAt x0 x1 x2 x3 x4 x5 x6 x7 n sub ⟨l.val / 256, by omega⟩ ⟨l.val / 64 % 4, by omega⟩ j
    ⟨l.val % 64, by omega⟩

/-- The sum of the squares of a query's channels, head after head. -/
def ssqAt (n : ℕ) (sub : Fin 2) (j : Fin 128) : EReal :=
  ∑ h : Fin 16, ∑ d : Fin 64,
    headAt x0 x1 x2 x3 x4 x5 x6 x7 n sub ⟨h.val / 4, by omega⟩ ⟨h.val % 4, by omega⟩ j d *
    headAt x0 x1 x2 x3 x4 x5 x6 x7 n sub ⟨h.val / 4, by omega⟩ ⟨h.val % 4, by omega⟩ j d

/-- One head's part of the outputs side by side. -/
theorem outs_at (n : ℕ) (sub : Fin 2) (hk g : Fin 4) (j : Fin 128) (d : Fin 64) (l : Fin 512)
    (hl : l.val = 128 * g.val + j.val) :
    outsOf x0 x1 x2 x3 x4 x5 x6 x7 n sub hk (ix2 d l) =
      headAt x0 x1 x2 x3 x4 x5 x6 x7 n sub hk g j d := by
  unfold outsOf
  have e1 : (⟨l.val / 128, by omega⟩ : Fin 4) = g := Fin.ext (by simp only; omega)
  have e2 : (⟨l.val % 128, by omega⟩ : Fin 128) = j := Fin.ext (by simp only; omega)
  exact congrArg₂ (fun a b => headAt x0 x1 x2 x3 x4 x5 x6 x7 n sub hk a b d) e1 e2

/-- One stored piece of the outputs, as the channel and the row it lands on. -/
theorem piece_at (n : ℕ) (sub : Fin 2) (hk g : Fin 4) (a : Fin 64) (b : Fin 128) (q : Fin 512)
    (r : Fin 256) (l : Fin 1024) (hq : q.val = 128 * g.val + b.val)
    (h0 : l.val = 256 * hk.val + 64 * g.val + a.val) (h1 : r.val = 128 * sub.val + b.val) :
    outsOf x0 x1 x2 x3 x4 x5 x6 x7 n sub hk (ix2 a q) =
      chanAt x0 x1 x2 x3 x4 x5 x6 x7 n ⟨r.val / 128, by omega⟩ l ⟨r.val % 128, by omega⟩ := by
  rw [outs_at x0 x1 x2 x3 x4 x5 x6 x7 n sub hk g b a q hq]
  unfold chanAt
  have e1 : (⟨r.val / 128, by omega⟩ : Fin 2) = sub := Fin.ext (by simp only; omega)
  have e2 : (⟨r.val % 128, by omega⟩ : Fin 128) = b := Fin.ext (by simp only; omega)
  have e3 : (⟨l.val / 256, by omega⟩ : Fin 4) = hk := Fin.ext (by simp only; omega)
  have e4 : (⟨l.val / 64 % 4, by omega⟩ : Fin 4) = g := Fin.ext (by simp only; omega)
  have e5 : (⟨l.val % 64, by omega⟩ : Fin 64) = a := Fin.ext (by simp only; omega)
  rw [e1, e2, e3, e4, e5]

/-- One head's sum of squares. -/
theorem squares_at (n : ℕ) (sub : Fin 2) (hk g : Fin 4) (j : Fin 128) (l : Fin 512)
    (hl : l.val = 128 * g.val + j.val) :
    ∑ d : Fin 64, outsOf x0 x1 x2 x3 x4 x5 x6 x7 n sub hk (ix2 d l) *
        outsOf x0 x1 x2 x3 x4 x5 x6 x7 n sub hk (ix2 d l) =
      ∑ d : Fin 64, headAt x0 x1 x2 x3 x4 x5 x6 x7 n sub hk g j d *
        headAt x0 x1 x2 x3 x4 x5 x6 x7 n sub hk g j d :=
  Finset.sum_congr rfl fun d _ => by rw [outs_at x0 x1 x2 x3 x4 x5 x6 x7 n sub hk g j d l hl]

/-- The sum of squares written out: one head after another. -/
theorem ssq_sum (n : ℕ) (sub : Fin 2) (j : Fin 128) :
    ssqAt x0 x1 x2 x3 x4 x5 x6 x7 n sub j =
      (∑ d : Fin 64, headAt x0 x1 x2 x3 x4 x5 x6 x7 n sub 0 0 j d * headAt x0 x1 x2 x3 x4 x5 x6 x7 n sub 0 0 j d)
      + (∑ d : Fin 64, headAt x0 x1 x2 x3 x4 x5 x6 x7 n sub 0 1 j d * headAt x0 x1 x2 x3 x4 x5 x6 x7 n sub 0 1 j d)
      + (∑ d : Fin 64, headAt x0 x1 x2 x3 x4 x5 x6 x7 n sub 0 2 j d * headAt x0 x1 x2 x3 x4 x5 x6 x7 n sub 0 2 j d)
      + (∑ d : Fin 64, headAt x0 x1 x2 x3 x4 x5 x6 x7 n sub 0 3 j d * headAt x0 x1 x2 x3 x4 x5 x6 x7 n sub 0 3 j d)
      + (∑ d : Fin 64, headAt x0 x1 x2 x3 x4 x5 x6 x7 n sub 1 0 j d * headAt x0 x1 x2 x3 x4 x5 x6 x7 n sub 1 0 j d)
      + (∑ d : Fin 64, headAt x0 x1 x2 x3 x4 x5 x6 x7 n sub 1 1 j d * headAt x0 x1 x2 x3 x4 x5 x6 x7 n sub 1 1 j d)
      + (∑ d : Fin 64, headAt x0 x1 x2 x3 x4 x5 x6 x7 n sub 1 2 j d * headAt x0 x1 x2 x3 x4 x5 x6 x7 n sub 1 2 j d)
      + (∑ d : Fin 64, headAt x0 x1 x2 x3 x4 x5 x6 x7 n sub 1 3 j d * headAt x0 x1 x2 x3 x4 x5 x6 x7 n sub 1 3 j d)
      + (∑ d : Fin 64, headAt x0 x1 x2 x3 x4 x5 x6 x7 n sub 2 0 j d * headAt x0 x1 x2 x3 x4 x5 x6 x7 n sub 2 0 j d)
      + (∑ d : Fin 64, headAt x0 x1 x2 x3 x4 x5 x6 x7 n sub 2 1 j d * headAt x0 x1 x2 x3 x4 x5 x6 x7 n sub 2 1 j d)
      + (∑ d : Fin 64, headAt x0 x1 x2 x3 x4 x5 x6 x7 n sub 2 2 j d * headAt x0 x1 x2 x3 x4 x5 x6 x7 n sub 2 2 j d)
      + (∑ d : Fin 64, headAt x0 x1 x2 x3 x4 x5 x6 x7 n sub 2 3 j d * headAt x0 x1 x2 x3 x4 x5 x6 x7 n sub 2 3 j d)
      + (∑ d : Fin 64, headAt x0 x1 x2 x3 x4 x5 x6 x7 n sub 3 0 j d * headAt x0 x1 x2 x3 x4 x5 x6 x7 n sub 3 0 j d)
      + (∑ d : Fin 64, headAt x0 x1 x2 x3 x4 x5 x6 x7 n sub 3 1 j d * headAt x0 x1 x2 x3 x4 x5 x6 x7 n sub 3 1 j d)
      + (∑ d : Fin 64, headAt x0 x1 x2 x3 x4 x5 x6 x7 n sub 3 2 j d * headAt x0 x1 x2 x3 x4 x5 x6 x7 n sub 3 2 j d)
      + (∑ d : Fin 64, headAt x0 x1 x2 x3 x4 x5 x6 x7 n sub 3 3 j d * headAt x0 x1 x2 x3 x4 x5 x6 x7 n sub 3 3 j d) := by
  unfold ssqAt
  simp only [Fin.sum_univ_castSucc (n := 15), Fin.sum_univ_castSucc (n := 14), Fin.sum_univ_castSucc (n := 13),
    Fin.sum_univ_castSucc (n := 12), Fin.sum_univ_castSucc (n := 11), Fin.sum_univ_castSucc (n := 10),
    Fin.sum_univ_castSucc (n := 9), Fin.sum_univ_castSucc (n := 8), Fin.sum_univ_castSucc (n := 7),
    Fin.sum_univ_castSucc (n := 6), Fin.sum_univ_castSucc (n := 5), Fin.sum_univ_castSucc (n := 4),
    Fin.sum_univ_castSucc (n := 3), Fin.sum_univ_castSucc (n := 2), Fin.sum_univ_castSucc (n := 1),
    Fin.sum_univ_castSucc (n := 0), Fin.sum_univ_zero, zero_add]
  rfl

/-- What one grid point writes at row `r` and channel `l` of its block: the output over the root of
its mean square, times the gain. -/
def blockAt (x8 : FVec Ideal S1x1024 .f32) (n : ℕ) (r : Fin 256) (l : Fin 1024) : EReal :=
  chanAt x0 x1 x2 x3 x4 x5 x6 x7 n ⟨r.val / 128, by omega⟩ l ⟨r.val % 128, by omega⟩ *
    Ideal.rsqrt (ssqAt x0 x1 x2 x3 x4 x5 x6 x7 n ⟨r.val / 128, by omega⟩ ⟨r.val % 128, by omega⟩ *
      Ideal.ofBits .f32 0x3A800000#32 + Ideal.ofBits .f32 0x3727C5AC#32) * x8 (ix2 0 l)

end Spec
end Cert.KernelIdeal.Block
end
end
-- ==== Proof.Bias.lean ====
module

public import proofs.«01_k».proof.Proof.Heads
public import Idealize.ShloMosaic.Lib.WordCmp

@[expose] public section
set_option maxRecDepth 16384
noncomputable section
open Idealize.ShloMosaic Idealize.ShloMosaic.TcCoe Idealize.SL.Sem
namespace Cert.KernelIdeal.Block
open Cert.KernelIdeal Cert.KernelIdeal.Gen Banded Idealize.ShloMosaic.WordCmp

/-- The literal that masks a score. -/
abbrev maskLit : Ideal .f32 := Named.named κ "mask" 0xF149F2CA#32

/-- The named literal of the mask is minus infinity. -/
theorem mask_value : maskLit = (⊥ : EReal) :=
  IdealRules.named_const.ideal_named_scalar _ _ _ _ rfl

/-- A position before 128, less 128, is a negative word. -/
theorem before : ∀ k : Fin 128,
    IntOp.cmpi CmpIPredicate.sge (IntOp.subi (BitVec.ofNat 32 k.val) 128#32) 0#32 = 0#1 := by
  decide +kernel

/-- The mask's comparisons of 32-bit words, as the inequalities they decide. -/
theorem word (k j off : ℕ) (hk : k < 272) (hj : j < 128) (ho : off ≤ 128) (x y : EReal) :
    Scalar.select
      (IntOp.ori
        (IntOp.ori (IntOp.cmpi CmpIPredicate.sge (BitVec.ofNat 32 k) 256#32)
          (IntOp.andi (IntOp.cmpi CmpIPredicate.sge (IntOp.subi (BitVec.ofNat 32 k) 128#32) 0#32)
            (IntOp.cmpi CmpIPredicate.sle (IntOp.subi (BitVec.ofNat 32 k) 128#32) (BitVec.ofNat 32 j))))
        (IntOp.andi (IntOp.cmpi CmpIPredicate.slt (BitVec.ofNat 32 k) 128#32)
          (IntOp.cmpi CmpIPredicate.sgt (BitVec.ofNat 32 k)
            (IntOp.addi (BitVec.ofNat 32 j) (BitVec.ofNat 32 off)))))
      x y =
    if (256 ≤ k ∨ (128 ≤ k ∧ k - 128 ≤ j)) ∨ (k < 128 ∧ j + off < k) then x else y := by
  rw [addi_ofNat]
  by_cases h : k < 128
  · have e := before ⟨k, h⟩
    simp only at e
    rw [e]
    have e2 : ∀ b : BitVec 1, IntOp.andi 0#1 b = BitVec.ofBool false := by decide
    rw [e2]
    simp (disch := omega) only [hlo_ix]
    refine if_congr ?_ rfl rfl
    simp only [Bool.false_eq_true, or_false]
    omega
  · have e : IntOp.subi (BitVec.ofNat 32 k) 128#32 = BitVec.ofNat 32 (k - 128) := by
      unfold IntOp.subi
      apply BitVec.eq_of_toNat_eq
      simp
      omega
    rw [e]
    simp (disch := omega) only [hlo_ix]
    refine if_congr ?_ rfl rfl
    omega

/-- The mask of a grid point's first block. -/
theorem bias0 (i : grid0.Coords) (n : ℕ) (hn : (i 1).val = n) (h32 : n < 32) (k : Fin 272) (g : Fin 4) (j : Fin 128) :
    k0_pay3 (F := Ideal) i (ix2 k ⟨128 * g.val + j.val, by omega⟩) = biasAt n 0 k j := by
  have hk := k.isLt
  have hj := j.isLt
  have e : Scalar.select (Scalar.cmpi CmpIPredicate.sgt (BitVec.ofNat 32 ↑(i 1)) 0#32) 0#32 128#32 =
      BitVec.ofNat 32 (if n = 0 then 128 else 0) := by
    rw [hn]
    by_cases h0 : n = 0
    · subst h0; rfl
    · simp (disch := omega) only [hlo_ix]
      rw [if_neg h0, if_pos (by omega)]
  pointwise [k0_pay3, k0_pay1]
  simp only [e]
  unfold biasAt Seen
  have w := word k.val j.val (if n = 0 then 128 else 0) hk hj (by split <;> omega) 0 maskLit
  have ev : lead n 0 = if n = 0 then 128 else 0 := by simp [lead]
  simp only [ev]
  rw [← mask_value]
  rcases (by omega : g.val = 0 ∨ g.val = 1 ∨ g.val = 2 ∨ g.val = 3) with h | h | h | h <;>
    simp only [h]
  · rw [dif_pos (by omega)]
    simpa using w
  · rw [dif_neg (by omega), dif_pos (by omega), show 128 * 1 + j.val - 128 = j.val by omega]
    exact w
  · rw [dif_neg (by omega), dif_neg (by omega), dif_pos (by omega),
      show 128 * 2 + j.val - 128 - 128 = j.val by omega]
    exact w
  · rw [dif_neg (by omega), dif_neg (by omega), dif_neg (by omega),
      show 128 * 3 + j.val - 128 - 128 - 128 = j.val by omega]
    exact w

/-- The mask of a grid point's second block, whose previous block is the first. -/
theorem bias1 (n : ℕ) (k : Fin 272) (g : Fin 4) (j : Fin 128) :
    k0_pay74 (F := Ideal) (iota .tc S272x128 32 [0] iota_S272x128_d0_w32)
      (iota .tc S272x128 32 [1] iota_S272x128_d1_w32) k0_pay1
      (ix2 k ⟨128 * g.val + j.val, by omega⟩) = biasAt n 1 k j := by
  have hk := k.isLt
  have hj := j.isLt
  pointwise [k0_pay74, k0_pay1]
  unfold biasAt Seen
  have w := word k.val j.val 0 hk hj (by omega) 0 maskLit
  have ev : lead n 1 = 0 := by simp [lead]
  simp only [ev]
  rw [← mask_value]
  rcases (by omega : g.val = 0 ∨ g.val = 1 ∨ g.val = 2 ∨ g.val = 3) with h | h | h | h <;>
    simp only [h]
  · rw [dif_pos (by omega)]
    simpa using w
  · rw [dif_neg (by omega), dif_pos (by omega), show 128 * 1 + j.val - 128 = j.val by omega]
    exact w
  · rw [dif_neg (by omega), dif_neg (by omega), dif_pos (by omega),
      show 128 * 2 + j.val - 128 - 128 = j.val by omega]
    exact w
  · rw [dif_neg (by omega), dif_neg (by omega), dif_neg (by omega),
      show 128 * 3 + j.val - 128 - 128 - 128 = j.val by omega]
    exact w

end Cert.KernelIdeal.Block
end
end
-- ==== Proof.Block.lean ====
module

public import proofs.«01_k».proof.Proof.Bias
public import proofs.«01_k».proof.Proof.Gen.KernelIdeal.Frame

@[expose] public section
set_option maxRecDepth 16384
noncomputable section
open Idealize.ShloMosaic Idealize.ShloMosaic.TcCoe Idealize.SL.Sem
open Idealize.ShloMosaic.Pipeline (Dat)
namespace Cert.KernelIdeal.Block
open Cert.KernelIdeal Cert.KernelIdeal.Gen Banded
variable (m : (ℓ : Loc nD τ sig) → Buf (Elt Ideal) ℓ)

/-- There are 32 blocks to a sequence. -/
theorem hn : ∀ t : Fin cfg0.N, (grid0.coords t 1).val < 32 :=
  (by decide +kernel : ∀ t : Fin grid0.N, (grid0.coords t 1).val < 32)

/-- Adding to an accumulator that starts at zero changes nothing. -/
theorem zero_plus (z a : EReal) (h : z = Ideal.ofBits .f32 0x00000000#32) : z + a = a := by
  rw [h]; simp [Ideal.ofBits, Ideal.ieee]

set_option maxHeartbeats 2000000 in
/-- What the kernel leaves in its output block at one grid point, from the blocks it was given. -/
theorem block_at (c) (t : Fin cfg0.N) (r : Fin 256) (l : Fin 1024) : outsAt0 m c t (ix2 r l) = blockAt (iblk m c 0 t) (iblk m c 1 t) (iblk m c 2 t) (iblk m c 3 t) (iblk m c 4 t) (iblk m c 5 t)
    (iblk m c 6 t) (iblk m c 7 t) (iblk m c 8 t) (grid0.coords t 1).val r l := by
  unfold outsAt0
  frame_out
  simp only [k0_pay14, k0_pay15, k0_pay16, k0_pay17, k0_pay18, k0_pay19, k0_pay20, k0_pay21, k0_pay22, k0_pay29, k0_pay30, k0_pay31, k0_pay32, k0_pay33, k0_pay34, k0_pay35, k0_pay36, k0_pay37, k0_pay38, k0_pay39, k0_pay45, k0_pay46, k0_pay47, k0_pay48, k0_pay49, k0_pay50, k0_pay51, k0_pay52, k0_pay53, k0_pay54, k0_pay64, k0_pay65, k0_pay66, k0_pay67, k0_pay68, k0_pay69, k0_pay70, k0_pay71, k0_pay72, k0_pay73, k0_pay81, k0_pay82, k0_pay83, k0_pay84, k0_pay85, k0_pay86, k0_pay87, k0_pay88, k0_pay89, k0_pay90, k0_pay101, k0_pay102, k0_pay103, k0_pay104, k0_pay105, k0_pay106, k0_pay107, k0_pay108, k0_pay109, k0_pay110, k0_pay118, k0_pay119, k0_pay120, k0_pay121, k0_pay122, k0_pay123, k0_pay124, k0_pay125, k0_pay126, k0_pay127, k0_pay133, k0_pay134, k0_pay135, k0_pay136, k0_pay137, k0_pay138, k0_pay139, k0_pay140, k0_pay141]
  rw [form00, heads_even (iblk m c 0 t) (iblk m c 1 t) (iblk m c 2 t) (iblk m c 3 t) (iblk m c 4 t) (iblk m c 5 t)
    (iblk m c 6 t) (iblk m c 7 t) (grid0.coords t 1).val 0 0 rfl]
  rotate_left
  case hb => exact bias0 _ _ rfl (hn t)
  case hkt => intro k e; pointwise [k0_pay5, k0_pay40, k0_pay55, k0_pay91, k0_pay111, k0_pay128, keyAt]
  case hv => intro k e; pointwise [k0_pay6, k0_pay23, k0_pay41, k0_pay56, k0_pay76, k0_pay92, k0_pay112, k0_pay129, valAt]
  iterate 4 pointwise
  iterate 4 (intro d j; pointwise)
  rw [form01, heads_odd (iblk m c 0 t) (iblk m c 1 t) (iblk m c 2 t) (iblk m c 3 t) (iblk m c 4 t) (iblk m c 5 t)
    (iblk m c 6 t) (iblk m c 7 t) (grid0.coords t 1).val 0 1 rfl]
  rotate_left
  case hb => exact bias0 _ _ rfl (hn t)
  case hkt => intro k e; pointwise [k0_pay5, k0_pay40, k0_pay55, k0_pay91, k0_pay111, k0_pay128, keyAt]
  case hv => intro k e; pointwise [k0_pay6, k0_pay23, k0_pay41, k0_pay56, k0_pay76, k0_pay92, k0_pay112, k0_pay129, valAt]
  iterate 4 pointwise
  iterate 4 (intro d j; pointwise)
  rw [form02, heads_even (iblk m c 0 t) (iblk m c 1 t) (iblk m c 2 t) (iblk m c 3 t) (iblk m c 4 t) (iblk m c 5 t)
    (iblk m c 6 t) (iblk m c 7 t) (grid0.coords t 1).val 0 2 rfl]
  rotate_left
  case hb => exact bias0 _ _ rfl (hn t)
  case hkt => intro k e; pointwise [k0_pay5, k0_pay40, k0_pay55, k0_pay91, k0_pay111, k0_pay128, keyAt]
  case hv => intro k e; pointwise [k0_pay6, k0_pay23, k0_pay41, k0_pay56, k0_pay76, k0_pay92, k0_pay112, k0_pay129, valAt]
  iterate 4 pointwise
  iterate 4 (intro d j; pointwise)
  rw [form03, heads_odd (iblk m c 0 t) (iblk m c 1 t) (iblk m c 2 t) (iblk m c 3 t) (iblk m c 4 t) (iblk m c 5 t)
    (iblk m c 6 t) (iblk m c 7 t) (grid0.coords t 1).val 0 3 rfl]
  rotate_left
  case hb => exact bias0 _ _ rfl (hn t)
  case hkt => intro k e; pointwise [k0_pay5, k0_pay40, k0_pay55, k0_pay91, k0_pay111, k0_pay128, keyAt]
  case hv => intro k e; pointwise [k0_pay6, k0_pay23, k0_pay41, k0_pay56, k0_pay76, k0_pay92, k0_pay112, k0_pay129, valAt]
  iterate 4 pointwise
  iterate 4 (intro d j; pointwise)
  rw [form10, heads_even (iblk m c 0 t) (iblk m c 1 t) (iblk m c 2 t) (iblk m c 3 t) (iblk m c 4 t) (iblk m c 5 t)
    (iblk m c 6 t) (iblk m c 7 t) (grid0.coords t 1).val 1 0 rfl]
  rotate_left
  case hb => exact bias1 _
  case hkt => intro k e; pointwise [k0_pay5, k0_pay40, k0_pay55, k0_pay91, k0_pay111, k0_pay128, keyAt]
  case hv => intro k e; pointwise [k0_pay6, k0_pay23, k0_pay41, k0_pay56, k0_pay76, k0_pay92, k0_pay112, k0_pay129, valAt]
  iterate 4 pointwise
  iterate 4 (intro d j; pointwise)
  rw [form11, heads_odd (iblk m c 0 t) (iblk m c 1 t) (iblk m c 2 t) (iblk m c 3 t) (iblk m c 4 t) (iblk m c 5 t)
    (iblk m c 6 t) (iblk m c 7 t) (grid0.coords t 1).val 1 1 rfl]
  rotate_left
  case hb => exact bias1 _
  case hkt => intro k e; pointwise [k0_pay5, k0_pay40, k0_pay55, k0_pay91, k0_pay111, k0_pay128, keyAt]
  case hv => intro k e; pointwise [k0_pay6, k0_pay23, k0_pay41, k0_pay56, k0_pay76, k0_pay92, k0_pay112, k0_pay129, valAt]
  iterate 4 pointwise
  iterate 4 (intro d j; pointwise)
  rw [form12, heads_even (iblk m c 0 t) (iblk m c 1 t) (iblk m c 2 t) (iblk m c 3 t) (iblk m c 4 t) (iblk m c 5 t)
    (iblk m c 6 t) (iblk m c 7 t) (grid0.coords t 1).val 1 2 rfl]
  rotate_left
  case hb => exact bias1 _
  case hkt => intro k e; pointwise [k0_pay5, k0_pay40, k0_pay55, k0_pay91, k0_pay111, k0_pay128, keyAt]
  case hv => intro k e; pointwise [k0_pay6, k0_pay23, k0_pay41, k0_pay56, k0_pay76, k0_pay92, k0_pay112, k0_pay129, valAt]
  iterate 4 pointwise
  iterate 4 (intro d j; pointwise)
  rw [form13, heads_odd (iblk m c 0 t) (iblk m c 1 t) (iblk m c 2 t) (iblk m c 3 t) (iblk m c 4 t) (iblk m c 5 t)
    (iblk m c 6 t) (iblk m c 7 t) (grid0.coords t 1).val 1 3 rfl]
  rotate_left
  case hb => exact bias1 _
  case hkt => intro k e; pointwise [k0_pay5, k0_pay40, k0_pay55, k0_pay91, k0_pay111, k0_pay128, keyAt]
  case hv => intro k e; pointwise [k0_pay6, k0_pay23, k0_pay41, k0_pay56, k0_pay76, k0_pay92, k0_pay112, k0_pay129, valAt]
  iterate 4 pointwise
  iterate 4 (intro d j; pointwise)
  generalize (grid0.coords t 1).val = n
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  unfold blockAt
  pointwise [k0_pay142, k0_pay136, k0_pay138, k0_pay140]
  refine Ideal.mul_congr (Ideal.mul_congr ?_ ?_) rfl
  · rw [View.readCov_eq_canon']
    refine Eq.trans (congrArg _ (show _ = (ix2 l r : S1024x256.Idx) from ?_)) ?_
    · funext a
      fin_cases a <;> (apply Fin.ext; rw [Rect.idx_unit_val]; simp)
    · canon_tiles x h
      case piece0 =>
        idx_vars x
        pointwise
        exact piece_at _ _ _ _ _ _ _ _ _ 1 3 3 x0 x1 _ _ _ (by simp) (by simpa using h0) (by simpa using h1)
      case piece1 =>
        idx_vars x
        pointwise
        exact piece_at _ _ _ _ _ _ _ _ _ 1 3 2 x0 x1 _ _ _ (by simp) (by simpa using h0) (by simpa using h1)
      case piece2 =>
        idx_vars x
        pointwise
        exact piece_at _ _ _ _ _ _ _ _ _ 1 3 1 x0 x1 _ _ _ (by simp) (by simpa using h0) (by simpa using h1)
      case piece3 =>
        idx_vars x
        pointwise
        exact piece_at _ _ _ _ _ _ _ _ _ 1 3 0 x0 x1 _ _ _ (by simp) (by simpa using h0) (by simpa using h1)
      case piece4 =>
        idx_vars x
        pointwise
        exact piece_at _ _ _ _ _ _ _ _ _ 1 2 3 x0 x1 _ _ _ (by simp) (by simpa using h0) (by simpa using h1)
      case piece5 =>
        idx_vars x
        pointwise
        exact piece_at _ _ _ _ _ _ _ _ _ 1 2 2 x0 x1 _ _ _ (by simp) (by simpa using h0) (by simpa using h1)
      case piece6 =>
        idx_vars x
        pointwise
        exact piece_at _ _ _ _ _ _ _ _ _ 1 2 1 x0 x1 _ _ _ (by simp) (by simpa using h0) (by simpa using h1)
      case piece7 =>
        idx_vars x
        pointwise
        exact piece_at _ _ _ _ _ _ _ _ _ 1 2 0 x0 x1 _ _ _ (by simp) (by simpa using h0) (by simpa using h1)
      case piece8 =>
        idx_vars x
        pointwise
        exact piece_at _ _ _ _ _ _ _ _ _ 1 1 3 x0 x1 _ _ _ (by simp) (by simpa using h0) (by simpa using h1)
      case piece9 =>
        idx_vars x
        pointwise
        exact piece_at _ _ _ _ _ _ _ _ _ 1 1 2 x0 x1 _ _ _ (by simp) (by simpa using h0) (by simpa using h1)
      case piece10 =>
        idx_vars x
        pointwise
        exact piece_at _ _ _ _ _ _ _ _ _ 1 1 1 x0 x1 _ _ _ (by simp) (by simpa using h0) (by simpa using h1)
      case piece11 =>
        idx_vars x
        pointwise
        exact piece_at _ _ _ _ _ _ _ _ _ 1 1 0 x0 x1 _ _ _ (by simp) (by simpa using h0) (by simpa using h1)
      case piece12 =>
        idx_vars x
        pointwise
        exact piece_at _ _ _ _ _ _ _ _ _ 1 0 3 x0 x1 _ _ _ (by simp) (by simpa using h0) (by simpa using h1)
      case piece13 =>
        idx_vars x
        pointwise
        exact piece_at _ _ _ _ _ _ _ _ _ 1 0 2 x0 x1 _ _ _ (by simp) (by simpa using h0) (by simpa using h1)
      case piece14 =>
        idx_vars x
        pointwise
        exact piece_at _ _ _ _ _ _ _ _ _ 1 0 1 x0 x1 _ _ _ (by simp) (by simpa using h0) (by simpa using h1)
      case piece15 =>
        idx_vars x
        pointwise
        exact piece_at _ _ _ _ _ _ _ _ _ 1 0 0 x0 x1 _ _ _ (by simp) (by simpa using h0) (by simpa using h1)
      case piece16 =>
        idx_vars x
        pointwise
        exact piece_at _ _ _ _ _ _ _ _ _ 0 3 3 x0 x1 _ _ _ (by simp) (by simpa using h0) (by simpa using h1)
      case piece17 =>
        idx_vars x
        pointwise
        exact piece_at _ _ _ _ _ _ _ _ _ 0 3 2 x0 x1 _ _ _ (by simp) (by simpa using h0) (by simpa using h1)
      case piece18 =>
        idx_vars x
        pointwise
        exact piece_at _ _ _ _ _ _ _ _ _ 0 3 1 x0 x1 _ _ _ (by simp) (by simpa using h0) (by simpa using h1)
      case piece19 =>
        idx_vars x
        pointwise
        exact piece_at _ _ _ _ _ _ _ _ _ 0 3 0 x0 x1 _ _ _ (by simp) (by simpa using h0) (by simpa using h1)
      case piece20 =>
        idx_vars x
        pointwise
        exact piece_at _ _ _ _ _ _ _ _ _ 0 2 3 x0 x1 _ _ _ (by simp) (by simpa using h0) (by simpa using h1)
      case piece21 =>
        idx_vars x
        pointwise
        exact piece_at _ _ _ _ _ _ _ _ _ 0 2 2 x0 x1 _ _ _ (by simp) (by simpa using h0) (by simpa using h1)
      case piece22 =>
        idx_vars x
        pointwise
        exact piece_at _ _ _ _ _ _ _ _ _ 0 2 1 x0 x1 _ _ _ (by simp) (by simpa using h0) (by simpa using h1)
      case piece23 =>
        idx_vars x
        pointwise
        exact piece_at _ _ _ _ _ _ _ _ _ 0 2 0 x0 x1 _ _ _ (by simp) (by simpa using h0) (by simpa using h1)
      case piece24 =>
        idx_vars x
        pointwise
        exact piece_at _ _ _ _ _ _ _ _ _ 0 1 3 x0 x1 _ _ _ (by simp) (by simpa using h0) (by simpa using h1)
      case piece25 =>
        idx_vars x
        pointwise
        exact piece_at _ _ _ _ _ _ _ _ _ 0 1 2 x0 x1 _ _ _ (by simp) (by simpa using h0) (by simpa using h1)
      case piece26 =>
        idx_vars x
        pointwise
        exact piece_at _ _ _ _ _ _ _ _ _ 0 1 1 x0 x1 _ _ _ (by simp) (by simpa using h0) (by simpa using h1)
      case piece27 =>
        idx_vars x
        pointwise
        exact piece_at _ _ _ _ _ _ _ _ _ 0 1 0 x0 x1 _ _ _ (by simp) (by simpa using h0) (by simpa using h1)
      case piece28 =>
        idx_vars x
        pointwise
        exact piece_at _ _ _ _ _ _ _ _ _ 0 0 3 x0 x1 _ _ _ (by simp) (by simpa using h0) (by simpa using h1)
      case piece29 =>
        idx_vars x
        pointwise
        exact piece_at _ _ _ _ _ _ _ _ _ 0 0 2 x0 x1 _ _ _ (by simp) (by simpa using h0) (by simpa using h1)
      case piece30 =>
        idx_vars x
        pointwise
        exact piece_at _ _ _ _ _ _ _ _ _ 0 0 1 x0 x1 _ _ _ (by simp) (by simpa using h0) (by simpa using h1)
      case piece31 =>
        idx_vars x
        pointwise
        exact piece_at _ _ _ _ _ _ _ _ _ 0 0 0 x0 x1 _ _ _ (by simp) (by simpa using h0) (by simpa using h1)
  · by_cases h : r.val < 128
    · have e1 : (⟨r.val / 128, by omega⟩ : Fin 2) = 0 := Fin.ext (by simp; omega)
      have e2 : (⟨r.val % 128, by omega⟩ : Fin 128) = ⟨r.val, h⟩ := Fin.ext (by simp; omega)
      rw [dif_pos h, e1, e2, ssq_sum]
      refine congrArg Ideal.rsqrt (Ideal.add_congr (Ideal.mul_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (?_) ?_) ?_) ?_) ?_) ?_) ?_) ?_) ?_) ?_) ?_) ?_) ?_) ?_) ?_) ?_) rfl) rfl)
      · refine (zero_plus _ _ (by pointwise [k0_pay4, k0_pay75])).trans ?_
        exact Finset.sum_congr (M := EReal) rfl fun d _ =>
          Ideal.mul_congr (outs_at X0 X1 X2 X3 X4 X5 X6 X7 n 0 0 0 _ _ _ (by simp))
            (outs_at X0 X1 X2 X3 X4 X5 X6 X7 n 0 0 0 _ _ _ (by simp))
      · exact Finset.sum_congr (M := EReal) rfl fun d _ =>
          Ideal.mul_congr (outs_at X0 X1 X2 X3 X4 X5 X6 X7 n 0 0 1 _ _ _ (by simp))
            (outs_at X0 X1 X2 X3 X4 X5 X6 X7 n 0 0 1 _ _ _ (by simp))
      · exact Finset.sum_congr (M := EReal) rfl fun d _ =>
          Ideal.mul_congr (outs_at X0 X1 X2 X3 X4 X5 X6 X7 n 0 0 2 _ _ _ (by simp))
            (outs_at X0 X1 X2 X3 X4 X5 X6 X7 n 0 0 2 _ _ _ (by simp))
      · exact Finset.sum_congr (M := EReal) rfl fun d _ =>
          Ideal.mul_congr (outs_at X0 X1 X2 X3 X4 X5 X6 X7 n 0 0 3 _ _ _ (by simp))
            (outs_at X0 X1 X2 X3 X4 X5 X6 X7 n 0 0 3 _ _ _ (by simp))
      · exact Finset.sum_congr (M := EReal) rfl fun d _ =>
          Ideal.mul_congr (outs_at X0 X1 X2 X3 X4 X5 X6 X7 n 0 1 0 _ _ _ (by simp))
            (outs_at X0 X1 X2 X3 X4 X5 X6 X7 n 0 1 0 _ _ _ (by simp))
      · exact Finset.sum_congr (M := EReal) rfl fun d _ =>
          Ideal.mul_congr (outs_at X0 X1 X2 X3 X4 X5 X6 X7 n 0 1 1 _ _ _ (by simp))
            (outs_at X0 X1 X2 X3 X4 X5 X6 X7 n 0 1 1 _ _ _ (by simp))
      · exact Finset.sum_congr (M := EReal) rfl fun d _ =>
          Ideal.mul_congr (outs_at X0 X1 X2 X3 X4 X5 X6 X7 n 0 1 2 _ _ _ (by simp))
            (outs_at X0 X1 X2 X3 X4 X5 X6 X7 n 0 1 2 _ _ _ (by simp))
      · exact Finset.sum_congr (M := EReal) rfl fun d _ =>
          Ideal.mul_congr (outs_at X0 X1 X2 X3 X4 X5 X6 X7 n 0 1 3 _ _ _ (by simp))
            (outs_at X0 X1 X2 X3 X4 X5 X6 X7 n 0 1 3 _ _ _ (by simp))
      · exact Finset.sum_congr (M := EReal) rfl fun d _ =>
          Ideal.mul_congr (outs_at X0 X1 X2 X3 X4 X5 X6 X7 n 0 2 0 _ _ _ (by simp))
            (outs_at X0 X1 X2 X3 X4 X5 X6 X7 n 0 2 0 _ _ _ (by simp))
      · exact Finset.sum_congr (M := EReal) rfl fun d _ =>
          Ideal.mul_congr (outs_at X0 X1 X2 X3 X4 X5 X6 X7 n 0 2 1 _ _ _ (by simp))
            (outs_at X0 X1 X2 X3 X4 X5 X6 X7 n 0 2 1 _ _ _ (by simp))
      · exact Finset.sum_congr (M := EReal) rfl fun d _ =>
          Ideal.mul_congr (outs_at X0 X1 X2 X3 X4 X5 X6 X7 n 0 2 2 _ _ _ (by simp))
            (outs_at X0 X1 X2 X3 X4 X5 X6 X7 n 0 2 2 _ _ _ (by simp))
      · exact Finset.sum_congr (M := EReal) rfl fun d _ =>
          Ideal.mul_congr (outs_at X0 X1 X2 X3 X4 X5 X6 X7 n 0 2 3 _ _ _ (by simp))
            (outs_at X0 X1 X2 X3 X4 X5 X6 X7 n 0 2 3 _ _ _ (by simp))
      · exact Finset.sum_congr (M := EReal) rfl fun d _ =>
          Ideal.mul_congr (outs_at X0 X1 X2 X3 X4 X5 X6 X7 n 0 3 0 _ _ _ (by simp))
            (outs_at X0 X1 X2 X3 X4 X5 X6 X7 n 0 3 0 _ _ _ (by simp))
      · exact Finset.sum_congr (M := EReal) rfl fun d _ =>
          Ideal.mul_congr (outs_at X0 X1 X2 X3 X4 X5 X6 X7 n 0 3 1 _ _ _ (by simp))
            (outs_at X0 X1 X2 X3 X4 X5 X6 X7 n 0 3 1 _ _ _ (by simp))
      · exact Finset.sum_congr (M := EReal) rfl fun d _ =>
          Ideal.mul_congr (outs_at X0 X1 X2 X3 X4 X5 X6 X7 n 0 3 2 _ _ _ (by simp))
            (outs_at X0 X1 X2 X3 X4 X5 X6 X7 n 0 3 2 _ _ _ (by simp))
      · exact Finset.sum_congr (M := EReal) rfl fun d _ =>
          Ideal.mul_congr (outs_at X0 X1 X2 X3 X4 X5 X6 X7 n 0 3 3 _ _ _ (by simp))
            (outs_at X0 X1 X2 X3 X4 X5 X6 X7 n 0 3 3 _ _ _ (by simp))
    · have e1 : (⟨r.val / 128, by omega⟩ : Fin 2) = 1 := Fin.ext (by simp; omega)
      have e2 : (⟨r.val % 128, by omega⟩ : Fin 128) = ⟨r.val - 128, by omega⟩ := Fin.ext (by simp; omega)
      rw [dif_neg h, e1, e2, ssq_sum]
      refine congrArg Ideal.rsqrt (Ideal.add_congr (Ideal.mul_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (?_) ?_) ?_) ?_) ?_) ?_) ?_) ?_) ?_) ?_) ?_) ?_) ?_) ?_) ?_) ?_) rfl) rfl)
      · refine (zero_plus _ _ (by pointwise [k0_pay4, k0_pay75])).trans ?_
        exact Finset.sum_congr (M := EReal) rfl fun d _ =>
          Ideal.mul_congr (outs_at X0 X1 X2 X3 X4 X5 X6 X7 n 1 0 0 _ _ _ (by simp))
            (outs_at X0 X1 X2 X3 X4 X5 X6 X7 n 1 0 0 _ _ _ (by simp))
      · exact Finset.sum_congr (M := EReal) rfl fun d _ =>
          Ideal.mul_congr (outs_at X0 X1 X2 X3 X4 X5 X6 X7 n 1 0 1 _ _ _ (by simp))
            (outs_at X0 X1 X2 X3 X4 X5 X6 X7 n 1 0 1 _ _ _ (by simp))
      · exact Finset.sum_congr (M := EReal) rfl fun d _ =>
          Ideal.mul_congr (outs_at X0 X1 X2 X3 X4 X5 X6 X7 n 1 0 2 _ _ _ (by simp))
            (outs_at X0 X1 X2 X3 X4 X5 X6 X7 n 1 0 2 _ _ _ (by simp))
      · exact Finset.sum_congr (M := EReal) rfl fun d _ =>
          Ideal.mul_congr (outs_at X0 X1 X2 X3 X4 X5 X6 X7 n 1 0 3 _ _ _ (by simp))
            (outs_at X0 X1 X2 X3 X4 X5 X6 X7 n 1 0 3 _ _ _ (by simp))
      · exact Finset.sum_congr (M := EReal) rfl fun d _ =>
          Ideal.mul_congr (outs_at X0 X1 X2 X3 X4 X5 X6 X7 n 1 1 0 _ _ _ (by simp))
            (outs_at X0 X1 X2 X3 X4 X5 X6 X7 n 1 1 0 _ _ _ (by simp))
      · exact Finset.sum_congr (M := EReal) rfl fun d _ =>
          Ideal.mul_congr (outs_at X0 X1 X2 X3 X4 X5 X6 X7 n 1 1 1 _ _ _ (by simp))
            (outs_at X0 X1 X2 X3 X4 X5 X6 X7 n 1 1 1 _ _ _ (by simp))
      · exact Finset.sum_congr (M := EReal) rfl fun d _ =>
          Ideal.mul_congr (outs_at X0 X1 X2 X3 X4 X5 X6 X7 n 1 1 2 _ _ _ (by simp))
            (outs_at X0 X1 X2 X3 X4 X5 X6 X7 n 1 1 2 _ _ _ (by simp))
      · exact Finset.sum_congr (M := EReal) rfl fun d _ =>
          Ideal.mul_congr (outs_at X0 X1 X2 X3 X4 X5 X6 X7 n 1 1 3 _ _ _ (by simp))
            (outs_at X0 X1 X2 X3 X4 X5 X6 X7 n 1 1 3 _ _ _ (by simp))
      · exact Finset.sum_congr (M := EReal) rfl fun d _ =>
          Ideal.mul_congr (outs_at X0 X1 X2 X3 X4 X5 X6 X7 n 1 2 0 _ _ _ (by simp))
            (outs_at X0 X1 X2 X3 X4 X5 X6 X7 n 1 2 0 _ _ _ (by simp))
      · exact Finset.sum_congr (M := EReal) rfl fun d _ =>
          Ideal.mul_congr (outs_at X0 X1 X2 X3 X4 X5 X6 X7 n 1 2 1 _ _ _ (by simp))
            (outs_at X0 X1 X2 X3 X4 X5 X6 X7 n 1 2 1 _ _ _ (by simp))
      · exact Finset.sum_congr (M := EReal) rfl fun d _ =>
          Ideal.mul_congr (outs_at X0 X1 X2 X3 X4 X5 X6 X7 n 1 2 2 _ _ _ (by simp))
            (outs_at X0 X1 X2 X3 X4 X5 X6 X7 n 1 2 2 _ _ _ (by simp))
      · exact Finset.sum_congr (M := EReal) rfl fun d _ =>
          Ideal.mul_congr (outs_at X0 X1 X2 X3 X4 X5 X6 X7 n 1 2 3 _ _ _ (by simp))
            (outs_at X0 X1 X2 X3 X4 X5 X6 X7 n 1 2 3 _ _ _ (by simp))
      · exact Finset.sum_congr (M := EReal) rfl fun d _ =>
          Ideal.mul_congr (outs_at X0 X1 X2 X3 X4 X5 X6 X7 n 1 3 0 _ _ _ (by simp))
            (outs_at X0 X1 X2 X3 X4 X5 X6 X7 n 1 3 0 _ _ _ (by simp))
      · exact Finset.sum_congr (M := EReal) rfl fun d _ =>
          Ideal.mul_congr (outs_at X0 X1 X2 X3 X4 X5 X6 X7 n 1 3 1 _ _ _ (by simp))
            (outs_at X0 X1 X2 X3 X4 X5 X6 X7 n 1 3 1 _ _ _ (by simp))
      · exact Finset.sum_congr (M := EReal) rfl fun d _ =>
          Ideal.mul_congr (outs_at X0 X1 X2 X3 X4 X5 X6 X7 n 1 3 2 _ _ _ (by simp))
            (outs_at X0 X1 X2 X3 X4 X5 X6 X7 n 1 3 2 _ _ _ (by simp))
      · exact Finset.sum_congr (M := EReal) rfl fun d _ =>
          Ideal.mul_congr (outs_at X0 X1 X2 X3 X4 X5 X6 X7 n 1 3 3 _ _ _ (by simp))
            (outs_at X0 X1 X2 X3 X4 X5 X6 X7 n 1 3 3 _ _ _ (by simp))
end Cert.KernelIdeal.Block
end
-- ==== Proof.Spec.lean ====
module

public import proofs.«01_k».proof.Proof.Softmax

@[expose] public section
noncomputable section
open Idealize.ShloMosaic
namespace Banded

/-- The token at place `j` of block `B`; the blocks are counted over both sequences. -/
def token (B : Fin 128) (j : Fin 128) : Fin 16384 := ⟨128 * B.val + j.val, by omega⟩

/-- The block before `B`; the first block of a sequence stands in for the one it does not have. -/
def prior (B : Fin 128) : Fin 128 := if B.val % 64 = 0 then B else ⟨B.val - 1, by omega⟩

/-- The keys that block `B` may see: the previous block's, its own, then the shared ones. -/
def key (K : Fin 16384 → Fin 256 → EReal) (M : Fin 16 → Fin 256 → EReal) (B : Fin 128)
    (k : Fin 272) (c : Fin 256) : EReal :=
  if h : k.val < 128 then K (token (prior B) ⟨k.val, h⟩) c
  else if h' : k.val - 128 < 128 then K (token B ⟨k.val - 128, h'⟩) c
  else M ⟨k.val - 128 - 128, by omega⟩ c

/-- Which keys query `j` of block `B` sees: the shared ones, its own block's up to itself, and the
previous block's after `j`, none in the first block of a sequence. -/
abbrev Sees (B : Fin 128) (k : Fin 272) (j : Fin 128) : Prop :=
  (256 ≤ k.val ∨ (128 ≤ k.val ∧ k.val - 128 ≤ j.val)) ∨
    (k.val < 128 ∧ j.val + (if B.val % 64 = 0 then 128 else 0) < k.val)

section
variable (Q : Fin 1024 → Fin 16384 → EReal) (K : Fin 16384 → Fin 256 → EReal)
  (M : Fin 16 → Fin 256 → EReal) (V : Fin 16384 → Fin 256 → EReal) (N : Fin 16 → Fin 256 → EReal)
  (sk : Fin 16 → EReal) (gain : Fin 1024 → EReal)

/-- The score of key `k` for query `j` of block `B`, in head `g` of the key-value head `hk`. -/
def score (B : Fin 128) (hk g : Fin 4) (j : Fin 128) (k : Fin 272) : EReal :=
  ∑ e : Fin 64, key K M B k ⟨64 * hk.val + e.val, by omega⟩ *
      Q ⟨64 * (4 * hk.val + g.val) + e.val, by omega⟩ (token B j)
    + if Sees B k j then 0 else ⊥

/-- Channel `d` of one head's output at query `j` of block `B`. -/
def head (B : Fin 128) (hk g : Fin 4) (j : Fin 128) (d : Fin 64) : EReal :=
  attend (score Q K M B hk g j) (sk ⟨4 * hk.val + g.val, by omega⟩)
    (fun k => key V N B k ⟨64 * hk.val + d.val, by omega⟩)

/-- The sum of the squares of all channels of all heads at one query. -/
def squares (B : Fin 128) (j : Fin 128) : EReal :=
  ∑ h : Fin 16, ∑ d : Fin 64,
    head Q K M V N sk B ⟨h.val / 4, by omega⟩ ⟨h.val % 4, by omega⟩ j d *
    head Q K M V N sk B ⟨h.val / 4, by omega⟩ ⟨h.val % 4, by omega⟩ j d

/-- The normalised output of token `r` in channel `l`. -/
def entry (r : Fin 16384) (l : Fin 1024) : EReal :=
  head Q K M V N sk ⟨r.val / 128, by omega⟩ ⟨l.val / 256, by omega⟩ ⟨l.val / 64 % 4, by omega⟩
      ⟨r.val % 128, by omega⟩ ⟨l.val % 64, by omega⟩ *
    Ideal.rsqrt (squares Q K M V N sk ⟨r.val / 128, by omega⟩ ⟨r.val % 128, by omega⟩ *
      Ideal.ofBits .f32 0x3A800000#32 + Ideal.ofBits .f32 0x3727C5AC#32) * gain l
end
end Banded
end
end
-- ==== Proof.Array.lean ====
module

public import proofs.«01_k».proof.Proof.Block
public import proofs.«01_k».proof.Proof.Spec
public import proofs.«01_k».proof.Proof.Gen.KernelIdeal.Value
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.KernelIdeal.Whole
open Cert.KernelIdeal Cert.KernelIdeal.Gen Cert.KernelIdeal.Block Banded

section Pure
variable (x0 : FVec Ideal S1024x256 .bf16) (x1 : FVec Ideal S128x256 .bf16)
  (x2 : FVec Ideal S256x256 .bf16) (x3 : FVec Ideal S16x256 .bf16)
  (x4 : FVec Ideal S256x128 .bf16) (x5 : FVec Ideal S256x256 .bf16)
  (x6 : FVec Ideal S256x16 .bf16) (x7 : FVec Ideal S1x16 .f32) (x8 : FVec Ideal S1x1024 .f32)
  (Q : Fin 1024 → Fin 16384 → EReal) (K : Fin 16384 → Fin 256 → EReal)
  (M : Fin 16 → Fin 256 → EReal) (V : Fin 16384 → Fin 256 → EReal) (N : Fin 16 → Fin 256 → EReal)
  (sk : Fin 16 → EReal) (gain : Fin 1024 → EReal)

/-- The keys of a half of grid point `T` are those of block `2 T` or `2 T + 1`. -/
theorem key_eq (T : Fin 64) (sub : Fin 2)
    (h1 : ∀ (k : Fin 128) (c : Fin 256), x1 (ix2 k c) = K (token (prior ⟨2 * T.val, by omega⟩) k) c)
    (h2 : ∀ (k c : Fin 256), x2 (ix2 k c) = K ⟨256 * T.val + k.val, by omega⟩ c)
    (h3 : ∀ (k : Fin 16) (c : Fin 256), x3 (ix2 k c) = M k c) (k : Fin 272) (c : Fin 256) :
    keyAt x1 x2 x3 sub k c = key K M ⟨2 * T.val + sub.val, by omega⟩ k c := by
  unfold keyAt key
  by_cases h : k.val < 128
  · rw [dif_pos h, dif_pos h]
    have hs : sub.val = 0 ∨ sub.val = 1 := by omega
    rcases hs with hs | hs
    · rw [if_pos hs, h1]
      simp only [hs, Nat.add_zero]
    · rw [if_neg (by omega), h2]
      refine congrArg (fun r => K r c) (Fin.ext ?_)
      simp only [token, prior, hs]
      rw [if_neg (by omega)]
      simp only
      omega
  · rw [dif_neg h, dif_neg h]
    by_cases h' : k.val - 128 < 128
    · rw [dif_pos h', dif_pos h', h2]
      refine congrArg (fun r => K r c) (Fin.ext ?_)
      simp only [token]
      omega
    · rw [dif_neg h', dif_neg h', h3]

/-- The values likewise. -/
theorem val_eq (T : Fin 64) (sub : Fin 2)
    (h4 : ∀ (c : Fin 256) (k : Fin 128), x4 (ix2 c k) = V (token (prior ⟨2 * T.val, by omega⟩) k) c)
    (h5 : ∀ (c k : Fin 256), x5 (ix2 c k) = V ⟨256 * T.val + k.val, by omega⟩ c)
    (h6 : ∀ (c : Fin 256) (k : Fin 16), x6 (ix2 c k) = N k c) (k : Fin 272) (c : Fin 256) :
    valAt x4 x5 x6 sub k c = key V N ⟨2 * T.val + sub.val, by omega⟩ k c := by
  unfold valAt key
  by_cases h : k.val < 128
  · rw [dif_pos h, dif_pos h]
    have hs : sub.val = 0 ∨ sub.val = 1 := by omega
    rcases hs with hs | hs
    · rw [if_pos hs, h4]
      simp only [hs, Nat.add_zero]
    · rw [if_neg (by omega), h5]
      refine congrArg (fun r => V r c) (Fin.ext ?_)
      simp only [token, prior, hs]
      rw [if_neg (by omega)]
      simp only
      omega
  · rw [dif_neg h, dif_neg h]
    by_cases h' : k.val - 128 < 128
    · rw [dif_pos h', dif_pos h', h5]
      refine congrArg (fun r => V r c) (Fin.ext ?_)
      simp only [token]
      omega
    · rw [dif_neg h', dif_neg h', h6]

/-- Only the first grid point of a sequence has a block with no block before it. -/
theorem lead_eq (T : Fin 64) (n : ℕ) (hn : n = T.val % 32) (sub : Fin 2) :
    lead n sub = if (2 * T.val + sub.val) % 64 = 0 then 128 else 0 := by
  unfold lead
  exact if_congr (by omega) rfl rfl

/-- One head's output at a grid point is that of the block it works on. -/
theorem head_eq (T : Fin 64) (n : ℕ) (hn : n = T.val % 32) (sub : Fin 2)
    (h0 : ∀ (c : Fin 1024) (y : Fin 256), x0 (ix2 c y) = Q c ⟨256 * T.val + y.val, by omega⟩)
    (h1 : ∀ (k : Fin 128) (c : Fin 256), x1 (ix2 k c) = K (token (prior ⟨2 * T.val, by omega⟩) k) c)
    (h2 : ∀ (k c : Fin 256), x2 (ix2 k c) = K ⟨256 * T.val + k.val, by omega⟩ c)
    (h3 : ∀ (k : Fin 16) (c : Fin 256), x3 (ix2 k c) = M k c)
    (h4 : ∀ (c : Fin 256) (k : Fin 128), x4 (ix2 c k) = V (token (prior ⟨2 * T.val, by omega⟩) k) c)
    (h5 : ∀ (c k : Fin 256), x5 (ix2 c k) = V ⟨256 * T.val + k.val, by omega⟩ c)
    (h6 : ∀ (c : Fin 256) (k : Fin 16), x6 (ix2 c k) = N k c)
    (h7 : ∀ h : Fin 16, x7 (ix2 0 h) = sk h) (hk g : Fin 4) (j : Fin 128) (d : Fin 64) :
    headAt x0 x1 x2 x3 x4 x5 x6 x7 n sub hk g j d =
      head Q K M V N sk ⟨2 * T.val + sub.val, by omega⟩ hk g j d := by
  unfold headAt head
  have es : scoreAt x0 x1 x2 x3 n sub hk g j =
      score Q K M ⟨2 * T.val + sub.val, by omega⟩ hk g j := by
    funext k
    unfold scoreAt score biasAt Seen Sees
    rw [lead_eq T n hn sub]
    refine Ideal.add_congr (Finset.sum_congr rfl fun e _ => ?_) rfl
    rw [key_eq x1 x2 x3 K M T sub h1 h2 h3, h0]
    refine congrArg (fun r => _ * Q _ r) (Fin.ext ?_)
    simp only [token]
    omega
  rw [es, h7]
  refine congrArg (fun v => attend _ _ v) (funext fun k => ?_)
  exact val_eq x4 x5 x6 V N T sub h4 h5 h6 k _

/-- What a grid point writes is its part of the whole array. -/
theorem block_eq (T : Fin 64) (n : ℕ) (hn : n = T.val % 32)
    (h0 : ∀ (c : Fin 1024) (y : Fin 256), x0 (ix2 c y) = Q c ⟨256 * T.val + y.val, by omega⟩)
    (h1 : ∀ (k : Fin 128) (c : Fin 256), x1 (ix2 k c) = K (token (prior ⟨2 * T.val, by omega⟩) k) c)
    (h2 : ∀ (k c : Fin 256), x2 (ix2 k c) = K ⟨256 * T.val + k.val, by omega⟩ c)
    (h3 : ∀ (k : Fin 16) (c : Fin 256), x3 (ix2 k c) = M k c)
    (h4 : ∀ (c : Fin 256) (k : Fin 128), x4 (ix2 c k) = V (token (prior ⟨2 * T.val, by omega⟩) k) c)
    (h5 : ∀ (c k : Fin 256), x5 (ix2 c k) = V ⟨256 * T.val + k.val, by omega⟩ c)
    (h6 : ∀ (c : Fin 256) (k : Fin 16), x6 (ix2 c k) = N k c)
    (h7 : ∀ h : Fin 16, x7 (ix2 0 h) = sk h) (h8 : ∀ l : Fin 1024, x8 (ix2 0 l) = gain l)
    (r : Fin 256) (l : Fin 1024) :
    blockAt x0 x1 x2 x3 x4 x5 x6 x7 x8 n r l =
      entry Q K M V N sk gain ⟨256 * T.val + r.val, by omega⟩ l := by
  have e1 : (⟨(256 * T.val + r.val) / 128, by omega⟩ : Fin 128) =
      ⟨2 * T.val + r.val / 128, by omega⟩ := Fin.ext (by simp only; omega)
  have e2 : (⟨(256 * T.val + r.val) % 128, by omega⟩ : Fin 128) = ⟨r.val % 128, by omega⟩ :=
    Fin.ext (by simp only; omega)
  unfold blockAt entry chanAt ssqAt squares
  simp only [head_eq x0 x1 x2 x3 x4 x5 x6 x7 Q K M V N sk T n hn _ h0 h1 h2 h3 h4 h5 h6 h7, e1, e2, h8]
end Pure

variable (m : (ℓ : Loc nD τ sig) → Buf (Elt Ideal) ℓ)

/-- Where each window's block lies, at every grid point. -/
theorem places : ∀ t : Fin cfg0.N,
    win0_0.index t = ![0, t.val] ∧
    win0_1.index t = ![if 2 * t.val % 64 = 0 then 2 * t.val else 2 * t.val - 1, 0] ∧
    win0_2.index t = ![t.val, 0] ∧ win0_3.index t = ![0, 0] ∧
    win0_4.index t = ![0, if 2 * t.val % 64 = 0 then 2 * t.val else 2 * t.val - 1] ∧
    win0_5.index t = ![0, t.val] ∧ win0_6.index t = ![0, 0] ∧ win0_7.index t = ![0, 0] ∧
    win0_8.index t = ![0, 0] ∧ win0_9.index t = ![t.val, 0] ∧
    (grid0.coords t 1).val = t.val % 32 :=
  (by decide +kernel : ∀ t : Fin grid0.N, _)

/-- The whole array after the run. -/
def G (c : Dev nD) : FVec Ideal S16384x1024 .bf16 := fun i =>
  entry (fun a b => m ((c : Thread nD τ).loc main_arg0) (ix2 a b))
    (fun a b => m ((c : Thread nD τ).loc main_arg1) (ix2 a b))
    (fun a b => m ((c : Thread nD τ).loc main_arg2) (ix2 a b))
    (fun a b => m ((c : Thread nD τ).loc main_arg3) (ix2 b a))
    (fun a b => m ((c : Thread nD τ).loc main_arg4) (ix2 a b))
    (fun a => m ((c : Thread nD τ).loc main_arg5) (ix2 0 a))
    (fun a => m ((c : Thread nD τ).loc main_arg6) (ix2 0 a))
    ⟨(i 0).val, (i 0).isLt⟩ ⟨(i 1).val, (i 1).isLt⟩

/-- The blocks as the arrays read where they lie. -/
theorem read0 (c : Dev nD) (t : Fin cfg0.N) (h : t.val < 64) (a : Fin 1024) (y : Fin 256) :
    (show FVec Ideal S1024x256 .bf16 from iblk m c 0 t) (ix2 a y) =
      m ((c : Thread nD τ).loc main_arg0) (ix2 a ⟨256 * t.val + y.val, by omega⟩) := by
  blk_ext [iblk, V, places t]

/-- Window 1: the previous block's keys. -/
theorem read1 (c : Dev nD) (t : Fin cfg0.N) (h : t.val < 64) (k : Fin 128) (a : Fin 256) :
    (show FVec Ideal S128x256 .bf16 from iblk m c 1 t) (ix2 k a) =
      m ((c : Thread nD τ).loc main_arg1) (ix2 (token (prior ⟨2 * t.val, by omega⟩) k) a) := by
  have e : (token (prior ⟨2 * t.val, by omega⟩) k).val =
      (if 2 * t.val % 64 = 0 then 2 * t.val else 2 * t.val - 1) * 128 + k.val := by
    unfold token prior
    split <;> simp_all <;> omega
  blk_ext [iblk, V, places t]

/-- Window 2: the own block's keys. -/
theorem read2 (c : Dev nD) (t : Fin cfg0.N) (h : t.val < 64) (k a : Fin 256) :
    (show FVec Ideal S256x256 .bf16 from iblk m c 2 t) (ix2 k a) =
      m ((c : Thread nD τ).loc main_arg1) (ix2 ⟨256 * t.val + k.val, by omega⟩ a) := by
  blk_ext [iblk, V, places t]

/-- Window 3: the shared keys. -/
theorem read3 (c : Dev nD) (t : Fin cfg0.N) (k : Fin 16) (a : Fin 256) :
    (show FVec Ideal S16x256 .bf16 from iblk m c 3 t) (ix2 k a) =
      m ((c : Thread nD τ).loc main_arg2) (ix2 k a) := by
  blk_ext [iblk, V, places t]

/-- Window 4: the previous block's values. -/
theorem read4 (c : Dev nD) (t : Fin cfg0.N) (h : t.val < 64) (a : Fin 256) (k : Fin 128) :
    (show FVec Ideal S256x128 .bf16 from iblk m c 4 t) (ix2 a k) =
      m ((c : Thread nD τ).loc main_arg3) (ix2 a (token (prior ⟨2 * t.val, by omega⟩) k)) := by
  have e : (token (prior ⟨2 * t.val, by omega⟩) k).val =
      (if 2 * t.val % 64 = 0 then 2 * t.val else 2 * t.val - 1) * 128 + k.val := by
    unfold token prior
    split <;> simp_all <;> omega
  blk_ext [iblk, V, places t]

/-- Window 5: the own block's values. -/
theorem read5 (c : Dev nD) (t : Fin cfg0.N) (h : t.val < 64) (a k : Fin 256) :
    (show FVec Ideal S256x256 .bf16 from iblk m c 5 t) (ix2 a k) =
      m ((c : Thread nD τ).loc main_arg3) (ix2 a ⟨256 * t.val + k.val, by omega⟩) := by
  blk_ext [iblk, V, places t]

/-- Window 6: the shared values, transposed before the kernel runs. -/
theorem read6 (c : Dev nD) (t : Fin cfg0.N) (a : Fin 256) (k : Fin 16) :
    (show FVec Ideal S256x16 .bf16 from iblk m c 6 t) (ix2 a k) =
      m ((c : Thread nD τ).loc main_arg4) (ix2 k a) := by
  blk_point [iblk, V, places t]

/-- Window 7: the sinks. -/
theorem read7 (c : Dev nD) (t : Fin cfg0.N) (a : Fin 16) :
    (show FVec Ideal S1x16 .f32 from iblk m c 7 t) (ix2 0 a) =
      m ((c : Thread nD τ).loc main_arg5) (ix2 0 a) := by
  blk_ext [iblk, V, places t]

/-- Window 8: the gains. -/
theorem read8 (c : Dev nD) (t : Fin cfg0.N) (a : Fin 1024) :
    (show FVec Ideal S1x1024 .f32 from iblk m c 8 t) (ix2 0 a) =
      m ((c : Thread nD τ).loc main_arg6) (ix2 0 a) := by
  blk_ext [iblk, V, places t]

/-- The grid has 64 points. -/
theorem points (t : Fin cfg0.N) : t.val < 64 := t.isLt

/-- The result array after the run, entry by entry. -/
theorem final (c : Dev nD) : (dats m 0 c).arrAt 9 cfg0.N = G m c := by
  refine (dats m 0 c).arrAt_eq_of_covers 9 _ (by decide +kernel) fun t _ y => ?_
  blk_simp
  rw [after0_9]
  have ht := points t
  obtain ⟨r, l, rfl⟩ : ∃ (r : Fin 256) (l : Fin 1024), y = ix2 r l := by
    idx_vars y
    exact ⟨_, _, rfl⟩
  refine (block_at m c t r l).trans ?_
  refine (block_eq (iblk m c 0 t) (iblk m c 1 t) (iblk m c 2 t) (iblk m c 3 t) (iblk m c 4 t)
    (iblk m c 5 t) (iblk m c 6 t) (iblk m c 7 t) (iblk m c 8 t)
    (fun a b => m ((c : Thread nD τ).loc main_arg0) (ix2 a b))
    (fun a b => m ((c : Thread nD τ).loc main_arg1) (ix2 a b))
    (fun a b => m ((c : Thread nD τ).loc main_arg2) (ix2 a b))
    (fun a b => m ((c : Thread nD τ).loc main_arg3) (ix2 b a))
    (fun a b => m ((c : Thread nD τ).loc main_arg4) (ix2 a b))
    (fun a => m ((c : Thread nD τ).loc main_arg5) (ix2 0 a))
    (fun a => m ((c : Thread nD τ).loc main_arg6) (ix2 0 a)) ⟨t.val, ht⟩ _
    (places t).2.2.2.2.2.2.2.2.2.2 (read0 m c t ht) (read1 m c t ht) (read2 m c t ht)
    (read3 m c t) (read4 m c t ht) (read5 m c t ht) (read6 m c t) (read7 m c t)
    (read8 m c t) r l).trans ?_
  unfold G
  refine congrArg₂ (entry _ _ _ _ _ _ _) (Fin.ext ?_) (Fin.ext ?_)
  · blk_simp [places t]
    simp only
    omega
  · blk_simp [places t]
end Cert.KernelIdeal.Whole
end
end
-- ==== Proof.RefKeys.lean ====
module

public import proofs.«01_k».proof.Proof.Gen.ReferenceIdeal.Read
public import proofs.«01_k».proof.Proof.Spec
public import Idealize.ShloMosaic.Lib.Pointwise
public import Idealize.ShloMosaic.Lib.WordCmp

@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Banded Idealize.ShloMosaic.WordCmp

/-- The kernel's place of the reference's key `k`: the reference puts the shared keys first. -/
def order : Fin 272 ≃ Fin 272 where
  toFun k := ⟨(k.val + 256) % 272, by omega⟩
  invFun k := ⟨(k.val + 16) % 272, by omega⟩
  left_inv k := by apply Fin.ext; simp only; omega
  right_inv k := by apply Fin.ext; simp only; omega

/-- Block `n` of sequence `b`, counted over both sequences. -/
def block (b : Fin 2) (n : Fin 64) : Fin 128 := ⟨64 * b.val + n.val, by omega⟩

/-- The reference's key that lies in the block before the first one. -/
abbrev Absent (n : Fin 64) (k : Fin 272) : Prop := n.val = 0 ∧ 16 ≤ k.val ∧ k.val < 144

/-- Equal coordinates give the same entry of an array. -/
theorem entry_congr {n m : ℕ} (x : (⟨2, ![n, m]⟩ : Shape).Idx → EReal) {a a' : Fin n} {c c' : Fin m}
    (h : a.val = a'.val) (h' : c.val = c'.val) : x (ix2 a c) = x (ix2 a' c') := by
  rw [Fin.ext h, Fin.ext h']

/-- The kernel's place of a key, as a number. -/
theorem order_val (k : Fin 272) : (order k).val = (k.val + 256) % 272 := rfl

/-- The shared keys, in the kernel's order. -/
theorem key_shared (K : Fin 16384 → Fin 256 → EReal) (M : Fin 16 → Fin 256 → EReal) (B : Fin 128) (k : Fin 272)
    (c : Fin 256) (h : k.val < 16) : key K M B (order k) c = M ⟨k.val, h⟩ c := by
  have ho := order_val k
  unfold key
  rw [dif_neg (by omega), dif_neg (by omega)]
  refine congrArg (fun a => M a c) (Fin.ext ?_)
  show (order k).val - 128 - 128 = k.val
  omega

/-- The keys of the block before, in the kernel's order. -/
theorem key_prior (K : Fin 16384 → Fin 256 → EReal) (M : Fin 16 → Fin 256 → EReal) (b : Fin 2) (n : Fin 64)
    (k : Fin 272) (c : Fin 256) (h : 16 ≤ k.val) (h' : k.val < 144) (hn : n.val ≠ 0) (r : Fin 16384)
    (hr : r.val = b.val * 8192 + (n.val - 1) * 128 + (k.val - 16)) :
    key K M (block b n) (order k) c = K r c := by
  have hlt := n.isLt
  have ho := order_val k
  have hb : (block b n).val = 64 * b.val + n.val := rfl
  unfold key
  rw [dif_pos (by omega)]
  refine congrArg (fun a => K a c) (Fin.ext ?_)
  have hp : (prior (block b n)).val = 64 * b.val + n.val - 1 := by
    unfold prior
    rw [if_neg (by omega)]
    rfl
  show 128 * (prior (block b n)).val + (order k).val = r.val
  omega

/-- The block's own keys, in the kernel's order. -/
theorem key_own (K : Fin 16384 → Fin 256 → EReal) (M : Fin 16 → Fin 256 → EReal) (b : Fin 2) (n : Fin 64)
    (k : Fin 272) (c : Fin 256) (h : 144 ≤ k.val) (r : Fin 16384)
    (hr : r.val = b.val * 8192 + n.val * 128 + (k.val - 16 - 128)) :
    key K M (block b n) (order k) c = K r c := by
  have hk := k.isLt
  have ho := order_val k
  have hb : (block b n).val = 64 * b.val + n.val := rfl
  unfold key
  rw [dif_neg (by omega), dif_pos (by omega)]
  refine congrArg (fun a => K a c) (Fin.ext ?_)
  show 128 * (block b n).val + ((order k).val - 128) = r.val
  omega

/-- The banded keys, by position. -/
theorem keys_at (x1 : FVec Ideal S16384x256 .bf16) (x2 : FVec Ideal S16x256 .bf16) (b : Fin 2) (n : Fin 64)
    (k : Fin 272) (h : Fin 4) (e : Fin 64) :
    (val_main_v17 (F := Ideal) x1 x2 (ix5 b n k h e) : EReal) =
      if h1 : k.val < 16 then (x2 (ix2 ⟨k.val, h1⟩ ⟨h.val * 64 + e.val, by omega⟩) : EReal)
      else if h2 : k.val - 16 < 128 then
        (if n.val < 1 then 0 else (x1 (ix2 ⟨b.val * 8192 + (n.val - 1) * 128 + (k.val - 16), by omega⟩ ⟨h.val * 64 + e.val, by omega⟩) : EReal))
      else (x1 (ix2 ⟨b.val * 8192 + n.val * 128 + (k.val - 16 - 128), by omega⟩ ⟨h.val * 64 + e.val, by omega⟩) : EReal) := by
  pointwise [val_main_v17, val_main_v16, val_main_v15, val_main_v14, val_main_v13, val_main_v12, val_main_v10,
    val_main_v7, val_main_v6, val_main_v3, val_main_cst]
  rfl

/-- The banded keys, at a key that is there. -/
theorem keys (x1 : FVec Ideal S16384x256 .bf16) (x2 : FVec Ideal S16x256 .bf16) (b : Fin 2) (n : Fin 64)
    (k : Fin 272) (h : Fin 4) (e : Fin 64) (hp : ¬ Absent n k) :
    val_main_v17 (F := Ideal) x1 x2 (ix5 b n k h e) =
      key (fun a c => x1 (ix2 a c)) (fun a c => x2 (ix2 a c)) (block b n) (order k)
        ⟨64 * h.val + e.val, by omega⟩ := by
  have hk := k.isLt
  have hn := n.isLt
  unfold Absent at hp
  rw [keys_at]
  by_cases h1 : k.val < 16
  · rw [dif_pos h1, key_shared _ _ _ _ _ h1]
    apply entry_congr <;> simp only <;> omega
  · rw [dif_neg h1]
    by_cases h2 : k.val - 16 < 128
    · rw [dif_pos h2, if_neg (by omega), key_prior _ _ b n k _ (by omega) (by omega) (by omega)
        ⟨b.val * 8192 + (n.val - 1) * 128 + (k.val - 16), by omega⟩ rfl]
      apply entry_congr <;> simp only <;> omega
    · rw [dif_neg h2, key_own _ _ b n k _ (by omega)
        ⟨b.val * 8192 + n.val * 128 + (k.val - 16 - 128), by omega⟩ rfl]
      apply entry_congr <;> simp only <;> omega

/-- The banded values, by position. -/
theorem values_at (x3 : FVec Ideal S256x16384 .bf16) (x4 : FVec Ideal S16x256 .bf16) (b : Fin 2) (n : Fin 64)
    (k : Fin 272) (h : Fin 4) (e : Fin 64) :
    (val_main_v25 (F := Ideal) x3 x4 (ix5 b n k h e) : EReal) =
      if h1 : k.val < 16 then (x4 (ix2 ⟨k.val, h1⟩ ⟨h.val * 64 + e.val, by omega⟩) : EReal)
      else if h2 : k.val - 16 < 128 then
        (if n.val < 1 then 0 else (x3 (ix2 ⟨h.val * 64 + e.val, by omega⟩ ⟨b.val * 8192 + (n.val - 1) * 128 + (k.val - 16), by omega⟩) : EReal))
      else (x3 (ix2 ⟨h.val * 64 + e.val, by omega⟩ ⟨b.val * 8192 + n.val * 128 + (k.val - 16 - 128), by omega⟩) : EReal) := by
  pointwise [val_main_v25, val_main_v24, val_main_v23, val_main_v22, val_main_v21, val_main_v20, val_main_v18,
    val_main_v9, val_main_v8, val_main_v5, val_main_v4, val_main_cst_0]
  rfl

/-- The banded values, at a key that is there. -/
theorem values (x3 : FVec Ideal S256x16384 .bf16) (x4 : FVec Ideal S16x256 .bf16) (b : Fin 2) (n : Fin 64)
    (k : Fin 272) (h : Fin 4) (e : Fin 64) (hp : ¬ Absent n k) :
    val_main_v25 (F := Ideal) x3 x4 (ix5 b n k h e) =
      key (fun a c => x3 (ix2 c a)) (fun a c => x4 (ix2 a c)) (block b n) (order k)
        ⟨64 * h.val + e.val, by omega⟩ := by
  have hk := k.isLt
  have hn := n.isLt
  unfold Absent at hp
  rw [values_at]
  by_cases h1 : k.val < 16
  · rw [dif_pos h1, key_shared _ _ _ _ _ h1]
    apply entry_congr <;> simp only <;> omega
  · rw [dif_neg h1]
    by_cases h2 : k.val - 16 < 128
    · rw [dif_pos h2, if_neg (by omega), key_prior _ _ b n k _ (by omega) (by omega) (by omega)
        ⟨b.val * 8192 + (n.val - 1) * 128 + (k.val - 16), by omega⟩ rfl]
      apply entry_congr <;> simp only <;> omega
    · rw [dif_neg h2, key_own _ _ b n k _ (by omega)
        ⟨b.val * 8192 + n.val * 128 + (k.val - 16 - 128), by omega⟩ rfl]
      apply entry_congr <;> simp only <;> omega

/-- The grouped queries. -/
theorem queries (x0 : FVec Ideal S1024x16384 .bf16) (b : Fin 2) (n : Fin 64)
    (j : Fin 128) (h g : Fin 4) (e : Fin 64) : val_main_v26 (F := Ideal) x0 (ix6 b n j h g e) =
      x0 (ix2 ⟨64 * (4 * h.val + g.val) + e.val, by omega⟩ (token (block b n) j)) := by
  pointwise [val_main_v26, val_main_v2, val_main_v1]
  unfold token block
  apply entry_congr <;> simp only <;> omega
end Cert.ReferenceIdeal.Stages
end
end
-- ==== Proof.RefMask.lean ====
module

public import proofs.«01_k».proof.Proof.Gen.ReferenceIdeal.Read
public import proofs.«01_k».proof.Proof.Spec
public import Idealize.ShloMosaic.Lib.Pointwise
public import Idealize.ShloMosaic.Lib.WordCmp

@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Banded Idealize.ShloMosaic.WordCmp

/-- A position before 128, less 128, is a negative word. -/
theorem before : ∀ k : Fin 128,
    IntOp.cmpi CmpIPredicate.sge (IntOp.subi (BitVec.ofNat 32 k.val) 128#32) 0#32 = 0#1 := by
  decide +kernel

/-- A difference of two positions in one block, as a word, is at least zero where it is one. -/
theorem within : ∀ k j : Fin 128,
    IntOp.andi (IntOp.cmpi CmpIPredicate.sge (IntOp.subi (BitVec.ofNat 32 j.val) (BitVec.ofNat 32 k.val)) 0#32)
        (IntOp.cmpi CmpIPredicate.slt (IntOp.subi (BitVec.ofNat 32 j.val) (BitVec.ofNat 32 k.val)) 128#32) =
      if k.val ≤ j.val then 1#1 else 0#1 := by
  decide +kernel

/-- The mask's words for a key in the query's own block. -/
theorem after (n k j : ℕ) (hn : n < 64) (hk : k < 128) (hj : j < 128) :
    IntOp.andi
      (IntOp.andi (IntOp.cmpi CmpIPredicate.sge (IntOp.subi (BitVec.ofNat 32 j) (BitVec.ofNat 32 k)) 0#32)
        (IntOp.cmpi CmpIPredicate.slt (IntOp.subi (BitVec.ofNat 32 j) (BitVec.ofNat 32 k)) 128#32))
      (IntOp.ori (IntOp.cmpi CmpIPredicate.sgt (BitVec.ofNat 32 n) 0#32)
        (IntOp.cmpi CmpIPredicate.sge (BitVec.ofNat 32 k) 0#32)) = if k ≤ j then 1#1 else 0#1 := by
  have e := within ⟨k, hk⟩ ⟨j, hj⟩
  simp only at e
  rw [e]
  have e2 : ∀ b : BitVec 1, IntOp.ori b 1#1 = 1#1 := by decide
  have e3 : IntOp.cmpi CmpIPredicate.sge (BitVec.ofNat 32 k) 0#32 = 1#1 := by
    simp (disch := omega) only [hlo_ix]
    exact Nat.zero_le k
  rw [e3, e2]
  by_cases h : k ≤ j
  · rw [if_pos h]; rfl
  · rw [if_neg h]; rfl

/-- The reference's mask: one where the query sees the key, by position in the banded keys. -/
theorem mask (n : Fin 64) (j : Fin 128) (k : Fin 272) :
    val_main_v56 (F := Ideal) (ix3 n j k) =
      if k.val < 16 ∨ (144 ≤ k.val ∧ k.val - 144 ≤ j.val) ∨ (k.val < 144 ∧ n.val ≠ 0 ∧ j.val + 16 < k.val)
        then 1#1 else 0#1 := by
  have hk := k.isLt
  have hn := n.isLt
  have hj := j.isLt
  pointwise [val_main_v56, val_main_v55, val_main_v54, val_main_v53, val_main_v52, val_main_v51, val_main_v50, val_main_v49,
   val_main_v48, val_main_v47, val_main_v46, val_main_v45, val_main_v44, val_main_v43, val_main_v42, val_main_v41, val_main_v40,
   val_main_v39, val_main_v38, val_main_v37, val_main_v36, val_main_v35, val_main_v34, val_main_v33, val_main_v32, val_main_v31,
   val_main_v30, val_main_v29, val_main_v28, val_main_v27, val_main_c, val_main_c_1, val_main_c_2, val_main_c_3, val_main_c_4, val_main_c_5]
  by_cases h1 : k.val < 16
  · rw [if_pos (Or.inl h1)]
    simp only [h1, dif_pos, if_pos]
  · simp only [h1, dif_neg, if_neg, not_false_eq_true, false_or]
    by_cases h2 : k.val - 16 < 128
    · have e := before ⟨k.val - 16, h2⟩
      simp only at e
      have e2 : IntOp.subi (BitVec.ofNat 32 j.val) (IntOp.subi (BitVec.ofNat 32 (k.val - 16)) 128#32) =
          BitVec.ofNat 32 (j.val + 128 - (k.val - 16)) := by
        unfold IntOp.subi
        apply BitVec.eq_of_toNat_eq
        simp
        omega
      simp only [e, e2]
      simp (disch := omega) only [hlo_ix]
      simp only [Nat.zero_le, decide_true, Bool.true_and]
      by_cases hb : n.val = 0
      · rw [if_neg (by omega), hb]
        rcases Bool.eq_false_or_eq_true (decide (j.val + 128 - (k.val - 16) < 128)) with hd | hd <;> rw [hd] <;> rfl
      · rw [decide_eq_true (show 0 < n.val by omega)]
        by_cases hd : j.val + 16 < k.val
        · rw [if_pos (by omega), decide_eq_true (by omega)]; rfl
        · rw [if_neg (by omega), decide_eq_false (by omega)]; rfl
    · have e : IntOp.subi (BitVec.ofNat 32 (k.val - 16)) 128#32 = BitVec.ofNat 32 (k.val - 144) := by
        unfold IntOp.subi
        apply BitVec.eq_of_toNat_eq
        simp
        omega
      simp only [e]
      rw [after n.val (k.val - 144) j.val (by omega) (by omega) hj]
      refine if_congr ?_ rfl rfl
      omega
end Cert.ReferenceIdeal.Stages
end
end
-- ==== Proof.Equation.lean ====
module

public import proofs.«01_k».proof.Proof.Softmax
public import Idealize.ShloMosaic.PureOps.Ideal.Laws

@[expose] public section
noncomputable section
open Idealize.ShloMosaic
namespace Banded

/-- The pattern of minus infinity. -/
theorem bottom : Ideal.ofBits FTy.f32 4286578688#32 = ⊥ := by simp [Ideal.ofBits, Ideal.ieee]

/-- The folded maximum from minus infinity is the supremum. -/
theorem fold_sup {n : ℕ} (s : Fin n → EReal) :
    Finset.fold max (Ideal.ofBits FTy.f32 4286578688#32) s Finset.univ = Finset.univ.sup s := by
  rw [bottom]; rfl

/-- The maximum of the scores and a finite sink is finite when no score is plus infinity. -/
theorem top_real {n : ℕ} (s : Fin n → EReal) (x : EReal) (hx : x ≠ ⊥) (hx' : x ≠ ⊤)
    (hs : ∀ k, s k ≠ ⊤) : ∃ r : ℝ, top s x = r := by
  have h1 : top s x ≠ ⊤ := by
    unfold top
    rw [fold_sup]
    refine ne_of_lt (max_lt ?_ (lt_top_iff_ne_top.mpr hx'))
    rw [Finset.sup_lt_iff bot_lt_top]
    exact fun k _ => lt_top_iff_ne_top.mpr (hs k)
  have h2 : top s x ≠ ⊥ := by
    refine ne_of_gt (lt_of_lt_of_le (bot_lt_iff_ne_bot.mpr hx) ?_)
    exact le_max_right _ _
  exact ⟨(top s x).toReal, (EReal.coe_toReal h1 h2).symm⟩

/-- A weight is a nonnegative real. -/
theorem weight_real (a : EReal) (r : ℝ) (h : a ≠ ⊤) : ∃ p : ℝ, 0 ≤ p ∧ Ideal.exp (a - (r : EReal)) = p := by
  induction a using EReal.rec with
  | bot => exact ⟨0, le_refl _, by rw [EReal.bot_sub]; rfl⟩
  | top => exact absurd rfl h
  | coe a => exact ⟨Real.exp (a - r), (Real.exp_pos _).le, by rw [← EReal.coe_sub]; rfl⟩

/-- A finite factor may be taken into a sum. -/
theorem sum_times {n : ℕ} (f : Fin n → EReal) (c : ℝ) (hc : 0 ≤ c) :
    (∑ k, f k) * (c : EReal) = ∑ k, f k * (c : EReal) := by
  induction n with
  | zero => simp
  | succ n ih =>
    rw [Fin.sum_univ_castSucc, Fin.sum_univ_castSucc, ← ih,
      EReal.right_distrib_of_nonneg_of_ne_top (by exact_mod_cast hc) (EReal.coe_ne_top c)]

/-- A sum of reals is a real. -/
theorem sum_real {n : ℕ} (f : Fin n → EReal) (hf : ∀ k, ∃ p : ℝ, 0 ≤ p ∧ f k = p) :
    ∃ p : ℝ, 0 ≤ p ∧ ∑ k, f k = p := by
  refine Finset.sum_induction f (fun y => ∃ p : ℝ, 0 ≤ p ∧ y = p) ?_ ⟨0, le_refl _, rfl⟩
    fun k _ => hf k
  rintro _ _ ⟨p, hp, rfl⟩ ⟨q, hq, rfl⟩
  exact ⟨p + q, add_nonneg hp hq, (EReal.coe_add p q).symm⟩

/-- The softmax with the sink as one more score, over keys in another order, gives the same output
as the kernel's: the weighted sum is divided after it is taken, and a key out of sight has weight
zero whatever its value is. -/
theorem attend_eq (s : Fin 272 → EReal) (W : Fin 273 → EReal) (v u : Fin 272 → EReal)
    (σ : Fin 272 ≃ Fin 272) (x : EReal) (hx : x ≠ ⊥) (hx' : x ≠ ⊤)
    (hs : ∀ k : Fin 272, s (σ k) = W k.castSucc) (hl : W (Fin.last 272) = x)
    (hW : ∀ k : Fin 272, W k.castSucc ≠ ⊤)
    (hv : ∀ k : Fin 272, W k.castSucc ≠ ⊥ → v (σ k) = u k) (M Z : EReal)
    (hM : M = max ⊥ (Finset.univ.sup W)) (hZ : Z = ∑ k, Ideal.exp (W k - M)) :
    ∑ k : Fin 272, Ideal.div (Ideal.exp (W k.castSucc - M)) Z * u k = attend s x v := by
  have hst : ∀ k, s k ≠ ⊤ := fun k => by
    have := hs (σ.symm k)
    rw [Equiv.apply_symm_apply] at this
    rw [this]
    exact hW _
  have eM : M = top s x := by
    rw [hM, max_eq_right bot_le]
    unfold top
    rw [fold_sup]
    refine le_antisymm (Finset.sup_le fun k _ => ?_) (max_le (Finset.sup_le fun k _ => ?_) ?_)
    · rcases Fin.eq_castSucc_or_eq_last k with ⟨k, rfl⟩ | rfl
      · rw [← hs]
        exact le_max_of_le_left (Finset.le_sup (f := s) (Finset.mem_univ _))
      · rw [hl]
        exact le_max_right _ _
    · have := hs (σ.symm k)
      rw [Equiv.apply_symm_apply] at this
      rw [this]
      exact Finset.le_sup (f := W) (Finset.mem_univ _)
    · rw [← hl]
      exact Finset.le_sup (f := W) (Finset.mem_univ _)
  obtain ⟨r, hr⟩ := top_real s x hx hx' hst
  have eZ : Z = ∑ k, Ideal.exp (s k - top s x) + Ideal.exp (x - top s x) := by
    rw [hZ, eM, Fin.sum_univ_castSucc, hl, ← Equiv.sum_comp σ (fun k => Ideal.exp (s k - top s x))]
    simp only [hs]
  obtain ⟨a, ha, ea⟩ := sum_real (fun k => Ideal.exp (s k - top s x))
    (fun k => by rw [hr]; exact weight_real _ _ (hst k))
  have hb : ∃ b : ℝ, 0 < b ∧ Ideal.exp (x - top s x) = b := by
    rw [hr]
    lift x to ℝ using ⟨hx', hx⟩
    exact ⟨Real.exp (x - r), Real.exp_pos _, by rw [← EReal.coe_sub]; rfl⟩
  obtain ⟨b, hb, eb⟩ := hb
  rw [ea, eb, ← EReal.coe_add] at eZ
  have hz : a + b ≠ 0 := by positivity
  unfold attend
  rw [ea, eb, ← EReal.coe_add, Ideal.div_coe hz, one_mul,
    sum_times _ _ (by positivity),
    ← Equiv.sum_comp σ (fun k => v k * Ideal.exp (s k - top s x) * ((1 / (a + b) : ℝ) : EReal))]
  refine Finset.sum_congr rfl fun k _ => ?_
  rw [eZ, Ideal.div_coe hz, hs, eM]
  by_cases h : W k.castSucc = ⊥
  · have e0 : Ideal.exp (W k.castSucc - top s x) = 0 := by
      rw [h, EReal.bot_sub]; rfl
    rw [e0]
    simp
  · rw [hv k h, mul_comm (u k), mul_right_comm]

end Banded
end
end
-- ==== Proof.RefScores.lean ====
module

public import proofs.«01_k».proof.Proof.RefKeys
public import proofs.«01_k».proof.Proof.RefMask
public import proofs.«01_k».proof.Proof.Equation

@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Banded

variable (x0 : FVec Ideal S1024x16384 .bf16) (x1 : FVec Ideal S16384x256 .bf16) (x2 : FVec Ideal S16x256 .bf16)
  (x5 : FVec Ideal S1x16 .f32)

/-- A masked score, by position. -/
theorem score_at (b : Fin 2) (n : Fin 64) (h g : Fin 4) (j : Fin 128) (k : Fin 272) :
    (val_main_v60 (F := Ideal) x0 x1 x2 (ix6 b n h g j k) : EReal) =
      Scalar.select (val_main_v56 (F := Ideal) (ix3 n j k))
        (∑ e : Fin 64, val_main_v17 (F := Ideal) x1 x2 (ix5 b n k h e) * val_main_v26 (F := Ideal) x0 (ix6 b n j h g e))
        (Ideal.ofBits .f32 4286578688#32) := by
  pointwise [val_main_v60, val_main_call0_v0, val_main_call0_v1, val_main_call0_v2, val_main_v59, val_main_v58,
    val_main_cst_6, val_main_v57]
  try rfl

/-- The reference's masked score is the kernel's, at the key's place in the kernel's order. -/
theorem scored (b : Fin 2) (n : Fin 64) (h g : Fin 4) (j : Fin 128) (k : Fin 272) :
    (val_main_v60 (F := Ideal) x0 x1 x2 (ix6 b n h g j k) : EReal) =
      score (fun a c => x0 (ix2 a c)) (fun a c => x1 (ix2 a c)) (fun a c => x2 (ix2 a c)) (block b n) h g j
        (order k) := by
  have hk := k.isLt
  have hn := n.isLt
  have hj := j.isLt
  have ho := order_val k
  have hb : (block b n).val = 64 * b.val + n.val := rfl
  have hm : (block b n).val % 64 = n.val := by omega
  have hs : Sees (block b n) (order k) j ↔
      (k.val < 16 ∨ (144 ≤ k.val ∧ k.val - 144 ≤ j.val) ∨ (k.val < 144 ∧ n.val ≠ 0 ∧ j.val + 16 < k.val)) := by
    unfold Sees
    rw [hm]
    by_cases h0 : n.val = 0
    · rw [if_pos h0]; omega
    · rw [if_neg h0]; omega
  rw [score_at, mask, bottom]
  unfold score
  by_cases hc : Sees (block b n) (order k) j
  · rw [if_pos hc, if_pos (hs.mp hc), add_zero]
    refine Eq.trans (b := ∑ e : Fin 64, val_main_v17 (F := Ideal) x1 x2 (ix5 b n k h e) *
      val_main_v26 (F := Ideal) x0 (ix6 b n j h g e)) rfl ?_
    refine Finset.sum_congr (M := EReal) rfl fun e _ => ?_
    refine Ideal.mul_congr (keys x1 x2 b n k h e ?_) (queries x0 b n j h g e)
    have := hs.mp hc
    unfold Absent
    omega
  · rw [if_neg hc, if_neg (fun hh => hc (hs.mpr hh)), EReal.add_bot]
    rfl

/-- The scores with the sink after them, by position. -/
theorem joined (b : Fin 2) (n : Fin 64) (h g : Fin 4) (j : Fin 128) (k : Fin 273) :
    (val_main_v63 (F := Ideal) x0 x1 x2 x5 (ix6 b n h g j k) : EReal) =
      if hk : k.val < 272 then (val_main_v60 (F := Ideal) x0 x1 x2 (ix6 b n h g j ⟨k.val, hk⟩) : EReal)
      else x5 (ix2 0 ⟨h.val * 4 + g.val, by omega⟩) := by
  pointwise [val_main_v63, val_main_v62, val_main_v61, val_main_v0]
  try rfl

/-- Every key but the last has its masked score. -/
theorem inner (b : Fin 2) (n : Fin 64) (h g : Fin 4) (j : Fin 128) (k : Fin 272) :
    (val_main_v63 (F := Ideal) x0 x1 x2 x5 (ix6 b n h g j k.castSucc) : EReal) =
      val_main_v60 (F := Ideal) x0 x1 x2 (ix6 b n h g j k) := by
  rw [joined, dif_pos (show k.castSucc.val < 272 from k.isLt)]
  rfl

/-- The last is the sink. -/
theorem outer (b : Fin 2) (n : Fin 64) (h g : Fin 4) (j : Fin 128) :
    (val_main_v63 (F := Ideal) x0 x1 x2 x5 (ix6 b n h g j (Fin.last 272)) : EReal) =
      x5 (ix2 0 ⟨4 * h.val + g.val, by omega⟩) := by
  rw [joined, dif_neg (show ¬ (Fin.last 272).val < 272 by simp)]
  apply entry_congr <;> simp only <;> omega
end Cert.ReferenceIdeal.Stages
end
end
-- ==== Proof.RefMax.lean ====
module

public import proofs.«01_k».proof.Proof.Gen.ReferenceIdeal.Read
public import proofs.«01_k».proof.Proof.Equation
public import Idealize.ShloMosaic.Lib.Pointwise
public import Idealize.ShloMosaic.Lib.WordCmp

@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Banded Idealize.ShloMosaic.WordCmp

variable (x0 : FVec Ideal S1024x16384 .bf16) (x1 : FVec Ideal S16384x256 .bf16) (x2 : FVec Ideal S16x256 .bf16)
  (x5 : FVec Ideal S1x16 .f32)

/-- The largest score, the sink included. -/
theorem most (b : Fin 2) (n : Fin 64) (h g : Fin 4) (j : Fin 128) :
    val_main_v66 (F := Ideal) x0 x1 x2 x5 (ix5 b n h g j) =
      max ⊥ (Finset.univ.sup fun k : Fin 273 => val_main_v63 (F := Ideal) x0 x1 x2 x5 (ix6 b n h g j k)) := by
  rw [val_main_v66_apply, val_main_v65_apply]
  have z : val_main_cst_8 (F := Ideal) (idx_main_v65 (ix5 b n h g j)) = (⊥ : EReal) := bottom
  have z' : val_main_cst_7 (F := Ideal) (Shape.Idx.first h_S_) = (⊥ : EReal) := bottom
  rw [z]
  refine congrArg (max (⊥ : EReal)) ?_
  unfold val_main_v64
  generalize val_main_v63 (F := Ideal) x0 x1 x2 x5 = y
  have hr : S2x64x4x4x128x273.Reduces [5] S2x64x4x4x128 := by decide
  refine (Host.reduce_eq_fold_single (FloatOps.maximumf (F := Ideal) (φ := .f32)) y (val_main_cst_7 (F := Ideal))
    reducesTo_S2x64x4x4x128x273_S2x64x4x4x128_d5 hr h_S_ (ix5 b n h g j)).trans ?_
  rw [z']
  refine Finset.fold_congr fun k _ => ?_
  have e : hr.lift (ix5 b n h g j) k = ix6 b n h g j k := by
    funext a
    fin_cases a <;> rfl
  exact congrArg y e

/-- The weights, before they are divided. -/
theorem weight (b : Fin 2) (n : Fin 64) (h g : Fin 4) (j : Fin 128) (k : Fin 273) :
    val_main_v70 (F := Ideal) x0 x1 x2 x5 (ix6 b n h g j k) =
      Ideal.exp (val_main_v63 (F := Ideal) x0 x1 x2 x5 (ix6 b n h g j k) -
        val_main_v66 (F := Ideal) x0 x1 x2 x5 (ix5 b n h g j)) := by
  pointwise [val_main_v70, val_main_v69, val_main_v68, val_main_v67]

/-- The sum of the weights. -/
theorem total (b : Fin 2) (n : Fin 64) (h g : Fin 4) (j : Fin 128) :
    val_main_v71 (F := Ideal) x0 x1 x2 x5 (ix5 b n h g j) =
      ∑ k : Fin 273, Ideal.exp (val_main_v63 (F := Ideal) x0 x1 x2 x5 (ix6 b n h g j k) -
        val_main_v66 (F := Ideal) x0 x1 x2 x5 (ix5 b n h g j)) := by
  rw [val_main_v71_apply]
  have z : val_main_cst_9 (F := Ideal) (Shape.Idx.first h_S_) = (0 : EReal) := by
    pointwise [val_main_cst_9]
  rw [z, zero_add]
  refine Finset.sum_congr (M := EReal) rfl fun k _ => ?_
  have e : idx_main_v71 (ix5 b n h g j) k = ix6 b n h g j k := by
    funext a
    fin_cases a <;> rfl
  rw [e]
  exact weight x0 x1 x2 x5 b n h g j k
end Cert.ReferenceIdeal.Stages
end
end
-- ==== Proof.RefOut.lean ====
module

public import proofs.«01_k».proof.Proof.Gen.ReferenceIdeal.Read
public import proofs.«01_k».proof.Proof.Spec
public import Idealize.ShloMosaic.Lib.Pointwise
public import Idealize.ShloMosaic.Lib.WordCmp

@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Banded Idealize.ShloMosaic.WordCmp

variable (x0 : FVec Ideal S1024x16384 .bf16) (x1 : FVec Ideal S16384x256 .bf16) (x2 : FVec Ideal S16x256 .bf16)
  (x3 : FVec Ideal S256x16384 .bf16) (x4 : FVec Ideal S16x256 .bf16)
  (x5 : FVec Ideal S1x16 .f32) (x6 : FVec Ideal S1x1024 .f32)

/-- The weighted values, at a token and a channel. -/
theorem mixed (r : Fin 16384) (l : Fin 1024) :
    val_main_v78 (F := Ideal) x0 x1 x2 x3 x4 x5 (ix2 r l) =
      ∑ k : Fin 272, Ideal.div
        (val_main_v70 (F := Ideal) x0 x1 x2 x5 (ix6 ⟨r.val / 8192, by omega⟩ ⟨r.val / 128 % 64, by omega⟩
          ⟨l.val / 256, by omega⟩ ⟨l.val / 64 % 4, by omega⟩ ⟨r.val % 128, by omega⟩ k.castSucc))
        (val_main_v71 (F := Ideal) x0 x1 x2 x5 (ix5 ⟨r.val / 8192, by omega⟩ ⟨r.val / 128 % 64, by omega⟩
          ⟨l.val / 256, by omega⟩ ⟨l.val / 64 % 4, by omega⟩ ⟨r.val % 128, by omega⟩)) *
        val_main_v25 (F := Ideal) x3 x4 (ix5 ⟨r.val / 8192, by omega⟩ ⟨r.val / 128 % 64, by omega⟩ k
          ⟨l.val / 256, by omega⟩ ⟨l.val % 64, by omega⟩) := by
  pointwise [val_main_v78, val_main_v77, val_main_v76, val_main_v75, val_main_v74, val_main_v73, val_main_v72]
  refine Finset.sum_congr (M := EReal) rfl fun k _ => ?_
  rw [mul_comm]
  rfl

/-- The normalised output, from the weighted values. -/
theorem normed (r : Fin 16384) (l : Fin 1024) :
    val_main_v91 (F := Ideal) x0 x1 x2 x3 x4 x5 x6 (ix2 r l) =
      (val_main_v78 (F := Ideal) x0 x1 x2 x3 x4 x5 (ix2 r l) : EReal) *
        Ideal.rsqrt (Ideal.div (∑ x : Fin 1024, val_main_v78 (F := Ideal) x0 x1 x2 x3 x4 x5 (ix2 r x) *
          val_main_v78 (F := Ideal) x0 x1 x2 x3 x4 x5 (ix2 r x)) (Ideal.ofBits .f32 1149239296#32) +
          Ideal.ofBits .f32 925353388#32) * x6 (ix2 0 l) := by
  pointwise [val_main_v91, val_main_v90, val_main_v89, val_main_v88, val_main_v87, val_main_v86, val_main_v85,
    val_main_v84, val_main_v83, val_main_v82, val_main_v81, val_main_v80, val_main_v79, val_main_cst_10,
    val_main_cst_11, val_main_cst_12]
  try rfl
end Cert.ReferenceIdeal.Stages
end
end
-- ==== Proof.RefEntry.lean ====
module

public import proofs.«01_k».proof.Proof.RefScores
public import proofs.«01_k».proof.Proof.RefMax
public import proofs.«01_k».proof.Proof.RefOut

@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Banded

/-- The product of two reals is a real. -/
theorem product_real (a b : EReal) (ha : a ≠ ⊥ ∧ a ≠ ⊤) (hb : b ≠ ⊥ ∧ b ≠ ⊤) : ∃ r : ℝ, a * b = r := by
  refine ⟨a.toReal * b.toReal, ?_⟩
  rw [EReal.coe_mul, EReal.coe_toReal ha.2 ha.1, EReal.coe_toReal hb.2 hb.1]

/-- A sum of reals is not plus infinity. -/
theorem sum_below {n : ℕ} (f : Fin n → EReal) (hf : ∀ k, ∃ r : ℝ, f k = r) : ∃ r : ℝ, ∑ k, f k = r := by
  refine Finset.sum_induction f (fun y => ∃ r : ℝ, y = r) ?_ ⟨0, rfl⟩ fun k _ => hf k
  rintro _ _ ⟨p, rfl⟩ ⟨q, rfl⟩
  exact ⟨p + q, (EReal.coe_add p q).symm⟩

/-- A score of finite queries and keys is not plus infinity. -/
theorem score_below (Q : Fin 1024 → Fin 16384 → EReal) (K : Fin 16384 → Fin 256 → EReal)
    (M : Fin 16 → Fin 256 → EReal) (hQ : ∀ a c, Q a c ≠ ⊥ ∧ Q a c ≠ ⊤) (hK : ∀ a c, K a c ≠ ⊥ ∧ K a c ≠ ⊤)
    (hM : ∀ a c, M a c ≠ ⊥ ∧ M a c ≠ ⊤) (B : Fin 128) (hk g : Fin 4) (j : Fin 128) (k : Fin 272) :
    score Q K M B hk g j k ≠ ⊤ := by
  have hkey : ∀ c, key K M B k c ≠ ⊥ ∧ key K M B k c ≠ ⊤ := fun c => by
    unfold key
    split
    · exact hK _ _
    · split
      · exact hK _ _
      · exact hM _ _
  unfold score
  obtain ⟨r, hr⟩ := sum_below (fun e : Fin 64 => key K M B k ⟨64 * hk.val + e.val, by omega⟩ *
      Q ⟨64 * (4 * hk.val + g.val) + e.val, by omega⟩ (token B j)) fun e => product_real _ _ (hkey _) (hQ _ _)
  rw [hr]
  split
  · rw [add_zero]
    exact EReal.coe_ne_top r
  · rw [EReal.add_bot]
    exact bot_ne_top

/-- Division by the pattern of 1024 is the product with that of its reciprocal. -/
theorem mean_eq (s : EReal) :
    Ideal.div s (Ideal.ofBits .f32 1149239296#32) = s * Ideal.ofBits .f32 0x3A800000#32 := by
  have h1 : Ideal.ofBits .f32 1149239296#32 = ((1024 : ℝ) : EReal) := by
    simp [Ideal.ofBits, Ideal.ieee]
    rw [← EReal.coe_mul]
    norm_num
  have h2 : Ideal.ofBits .f32 0x3A800000#32 = ((1 / 1024 : ℝ) : EReal) := by
    simp [Ideal.ofBits, Ideal.ieee]
    rw [← EReal.coe_mul]
    norm_num
  rw [h1, h2, Ideal.div_coe (by norm_num)]

variable (x0 : FVec Ideal S1024x16384 .bf16) (x1 : FVec Ideal S16384x256 .bf16) (x2 : FVec Ideal S16x256 .bf16)
  (x3 : FVec Ideal S256x16384 .bf16) (x4 : FVec Ideal S16x256 .bf16)
  (x5 : FVec Ideal S1x16 .f32) (x6 : FVec Ideal S1x1024 .f32)
  (h0 : ∀ a c, (x0 (ix2 a c) : EReal) ≠ ⊥ ∧ (x0 (ix2 a c) : EReal) ≠ ⊤)
  (h1 : ∀ a c, (x1 (ix2 a c) : EReal) ≠ ⊥ ∧ (x1 (ix2 a c) : EReal) ≠ ⊤)
  (h2 : ∀ a c, (x2 (ix2 a c) : EReal) ≠ ⊥ ∧ (x2 (ix2 a c) : EReal) ≠ ⊤)
  (h5 : ∀ a, (x5 (ix2 0 a) : EReal) ≠ ⊥ ∧ (x5 (ix2 0 a) : EReal) ≠ ⊤)

include h0 h1 h2 h5 in
/-- One head's output at a token and a channel: the reference's softmax over the banded keys is the kernel's. -/
theorem headed (b : Fin 2) (n : Fin 64) (h g : Fin 4) (j : Fin 128) (d : Fin 64) :
    (∑ k : Fin 272, Ideal.div
        (val_main_v70 (F := Ideal) x0 x1 x2 x5 (ix6 b n h g j k.castSucc))
        (val_main_v71 (F := Ideal) x0 x1 x2 x5 (ix5 b n h g j)) *
        val_main_v25 (F := Ideal) x3 x4 (ix5 b n k h d) : EReal) =
      head (fun a c => x0 (ix2 a c)) (fun a c => x1 (ix2 a c)) (fun a c => x2 (ix2 a c))
        (fun a c => x3 (ix2 c a)) (fun a c => x4 (ix2 a c)) (fun a => x5 (ix2 0 a)) (block b n) h g j d := by
  have hn := n.isLt
  have hs : ∀ k : Fin 272, score (fun a c => x0 (ix2 a c)) (fun a c => x1 (ix2 a c)) (fun a c => x2 (ix2 a c))
      (block b n) h g j (order k) = val_main_v63 (F := Ideal) x0 x1 x2 x5 (ix6 b n h g j k.castSucc) := fun k =>
    (scored x0 x1 x2 b n h g j k).symm.trans (inner x0 x1 x2 x5 b n h g j k).symm
  unfold head
  refine Eq.trans ?_ (attend_eq
    (score (fun a c => x0 (ix2 a c)) (fun a c => x1 (ix2 a c)) (fun a c => x2 (ix2 a c)) (block b n) h g j)
    (fun k => val_main_v63 (F := Ideal) x0 x1 x2 x5 (ix6 b n h g j k))
    (fun k => key (fun a c => x3 (ix2 c a)) (fun a c => x4 (ix2 a c)) (block b n) k ⟨64 * h.val + d.val, by omega⟩)
    (fun k => val_main_v25 (F := Ideal) x3 x4 (ix5 b n k h d)) order (x5 (ix2 0 ⟨4 * h.val + g.val, by omega⟩))
    (h5 _).1 (h5 _).2 hs (outer x0 x1 x2 x5 b n h g j)
    (fun k => by rw [← hs k]; exact score_below _ _ _ h0 h1 h2 _ _ _ _ _)
    (fun k hk => (values x3 x4 b n k h d (fun ha => hk ?_)).symm)
    (val_main_v66 (F := Ideal) x0 x1 x2 x5 (ix5 b n h g j))
    (val_main_v71 (F := Ideal) x0 x1 x2 x5 (ix5 b n h g j))
    (most x0 x1 x2 x5 b n h g j) (total x0 x1 x2 x5 b n h g j))
  · refine Finset.sum_congr (M := EReal) rfl fun k _ => ?_
    rw [weight]
  · rw [← hs k]
    have ho := order_val k
    have hb : (block b n).val = 64 * b.val + n.val := rfl
    unfold Absent at ha
    unfold score
    rw [if_neg, EReal.add_bot]
    unfold Sees
    rw [if_pos (by omega)]
    omega

include h0 h1 h2 h5 in
/-- The weighted values are the heads' outputs. -/
theorem mixed_head (r : Fin 16384) (l : Fin 1024) (B j : Fin 128) (hB : r.val / 128 = B.val) (hj : r.val % 128 = j.val)
    (h g : Fin 4) (d : Fin 64) (hh : l.val / 256 = h.val) (hg : l.val / 64 % 4 = g.val) (hd : l.val % 64 = d.val) :
    (val_main_v78 (F := Ideal) x0 x1 x2 x3 x4 x5 (ix2 r l) : EReal) =
      head (fun a c => x0 (ix2 a c)) (fun a c => x1 (ix2 a c)) (fun a c => x2 (ix2 a c))
        (fun a c => x3 (ix2 c a)) (fun a c => x4 (ix2 a c)) (fun a => x5 (ix2 0 a)) B h g j d := by
  rw [mixed, headed x0 x1 x2 x3 x4 x5 h0 h1 h2 h5]
  have e1 : block ⟨r.val / 8192, by omega⟩ ⟨r.val / 128 % 64, by omega⟩ = B := by
    apply Fin.ext
    show 64 * (r.val / 8192) + r.val / 128 % 64 = B.val
    omega
  have e2 : (⟨r.val % 128, by omega⟩ : Fin 128) = j := Fin.ext hj
  have e3 : (⟨l.val / 256, by omega⟩ : Fin 4) = h := Fin.ext hh
  have e4 : (⟨l.val / 64 % 4, by omega⟩ : Fin 4) = g := Fin.ext hg
  have e5 : (⟨l.val % 64, by omega⟩ : Fin 64) = d := Fin.ext hd
  rw [e1, e2, e3, e4, e5]

include h0 h1 h2 h5 in
/-- The reference's result, entry by entry. -/
theorem reference_at (r : Fin 16384) (l : Fin 1024) :
    (val_main_v91 (F := Ideal) x0 x1 x2 x3 x4 x5 x6 (ix2 r l) : EReal) =
      entry (fun a c => x0 (ix2 a c)) (fun a c => x1 (ix2 a c)) (fun a c => x2 (ix2 a c))
        (fun a c => x3 (ix2 c a)) (fun a c => x4 (ix2 a c)) (fun a => x5 (ix2 0 a)) (fun a => x6 (ix2 0 a)) r l := by
  rw [normed, mean_eq]
  unfold entry
  have hq : (∑ x : Fin 1024, val_main_v78 (F := Ideal) x0 x1 x2 x3 x4 x5 (ix2 r x) *
      val_main_v78 (F := Ideal) x0 x1 x2 x3 x4 x5 (ix2 r x) : EReal) =
      squares (fun a c => x0 (ix2 a c)) (fun a c => x1 (ix2 a c)) (fun a c => x2 (ix2 a c))
        (fun a c => x3 (ix2 c a)) (fun a c => x4 (ix2 a c)) (fun a => x5 (ix2 0 a))
        ⟨r.val / 128, by omega⟩ ⟨r.val % 128, by omega⟩ := by
    unfold squares
    refine (Fin.sum_univ_tiles (M := EReal) 16 64 rfl _).trans ?_
    refine Finset.sum_congr (M := EReal) rfl fun h _ => Finset.sum_congr (M := EReal) rfl fun d _ => ?_
    have hh := h.isLt
    have hd := d.isLt
    have e := mixed_head x0 x1 x2 x3 x4 x5 h0 h1 h2 h5 r ⟨h.val * 64 + d.val, by omega⟩
      ⟨r.val / 128, by omega⟩ ⟨r.val % 128, by omega⟩ rfl rfl ⟨h.val / 4, by omega⟩ ⟨h.val % 4, by omega⟩ d
      (by simp only; omega) (by simp only; omega) (by simp only; omega)
    exact Ideal.mul_congr e e
  rw [hq, mixed_head x0 x1 x2 x3 x4 x5 h0 h1 h2 h5 r l ⟨r.val / 128, by omega⟩ ⟨r.val % 128, by omega⟩ rfl rfl
    ⟨l.val / 256, by omega⟩ ⟨l.val / 64 % 4, by omega⟩ ⟨l.val % 64, by omega⟩ rfl rfl rfl]
end Cert.ReferenceIdeal.Stages
end
end
-- ==== Proof.Finite.lean ====
module

public import proofs.«01_k».proof.Defs
public import Idealize.ShloMosaic.Lib.ReduceAll
public import Idealize.ShloMosaic.Lib.Decide
public import Idealize.ShloMosaic.Lib.Pointwise

@[expose] public section
set_option maxRecDepth 16384
noncomputable section
open Idealize.ShloMosaic
namespace Cert.Pre_finite

/-- The side conditions of the precondition's operations. -/
theorem shapes : Cert.Pre_finite.Facts where
  bitsLt_bf16_f32 := by decide
  bcast_S_S1024x16384 := by decide
  reducesTo_S1024x16384_S_d0_1 := by decide
  h_S_ := by decide
  bcast_S_S16384x256 := by decide
  reducesTo_S16384x256_S_d0_1 := by decide
  bcast_S_S16x256 := by decide
  reducesTo_S16x256_S_d0_1 := by decide
  bcast_S_S1x16 := by decide
  reducesTo_S1x16_S_d0_1 := by decide

/-- The pattern of plus infinity. -/
theorem above : Ideal.ofBits FTy.f32 0x7F800000#32 = ⊤ := by simp [Ideal.ofBits, Ideal.ieee]

/-- An absolute value below infinity is that of a real. -/
theorem real_of_word (x : EReal) (h : Ideal.cmp .olt (max x (-x)) (Ideal.ofBits FTy.f32 0x7F800000#32) = 1#1) :
    x ≠ ⊥ ∧ x ≠ ⊤ := by
  rw [above] at h
  constructor
  · rintro rfl
    revert h
    simp [Ideal.cmp]
  · rintro rfl
    revert h
    simp [Ideal.cmp]

/-- Two bits whose conjunction is one are both one. -/
theorem both : ∀ a b : BitVec 1, IntOp.andi a b = 1#1 → a = 1#1 ∧ b = 1#1 := by decide

/-- The scalar shape has one index. -/
theorem one_index : Subsingleton S_.Idx := ⟨fun a b => funext fun k => k.elim0⟩

/-- What the precondition says: the queries, the keys, the shared keys and the sinks are real. -/
theorem reals [Facts] (x0 : FVec Ideal S1024x16384 .bf16) (x1 : FVec Ideal S16384x256 .bf16)
    (x2 : FVec Ideal S16x256 .bf16) (x3 : FVec Ideal S256x16384 .bf16) (x4 : FVec Ideal S16x256 .bf16)
    (x5 : FVec Ideal S1x16 .f32) (x6 : FVec Ideal S1x1024 .f32)
    (h : fn (F := Ideal) x0 x1 x2 x3 x4 x5 x6 = fun _ => 1#1) :
    (∀ i, (x0 i : EReal) ≠ ⊥ ∧ (x0 i : EReal) ≠ ⊤) ∧ (∀ i, (x1 i : EReal) ≠ ⊥ ∧ (x1 i : EReal) ≠ ⊤) ∧
      (∀ i, (x2 i : EReal) ≠ ⊥ ∧ (x2 i : EReal) ≠ ⊤) ∧ (∀ i, (x5 i : EReal) ≠ ⊥ ∧ (x5 i : EReal) ≠ ⊤) := by
  haveI := one_index
  have e := congrFun h (fun a => a.elim0)
  dsimp only [fn, fn_part1] at e
  obtain ⟨e, e5⟩ := both _ _ e
  obtain ⟨e, e2⟩ := both _ _ e
  obtain ⟨e0, e1⟩ := both _ _ e
  refine ⟨fun i => ?_, fun i => ?_, fun i => ?_, fun i => ?_⟩
  · exact real_of_word _ (Host.reduce_andi_all _ _ _ _ _ e0 i)
  · exact real_of_word _ (Host.reduce_andi_all _ _ _ _ _ e1 i)
  · exact real_of_word _ (Host.reduce_andi_all _ _ _ _ _ e2 i)
  · exact real_of_word _ (Host.reduce_andi_all _ _ _ _ _ e5 i)
end Cert.Pre_finite
end
end
-- ==== Proof.ExpertsWords.lean ====
module

public import Idealize.ShloMosaic.Lib.Affine
public import Idealize.ShloMosaic.PureOps.Ideal
public import Idealize.ShloMosaic.Init

@[expose] public section

set_option maxRecDepth 16384

namespace Cert.Words

open Idealize.ShloMosaic

/-! # The words the experts' control computes -/

/-- Whether a block's number is below the count. -/
theorem slt_word : ∀ (a : Fin 160) (n : Fin 161),
    Scalar.cmpi .slt (BitVec.ofNat 32 a.val) (BitVec.ofNat 32 n.val) = if a.val < n.val then 1#1 else 0#1 := by
  decide +kernel

/-- The same, through the word the branch tests. -/
theorem lt_word (a : Fin 160) (n : Fin 161) :
    Scalar.cmpi .ne (Scalar.extui (Scalar.cmpi .slt (BitVec.ofNat 32 a.val) (BitVec.ofNat 32 n.val)) : BitVec 32) 0#32
      = if a.val < n.val then 1#1 else 0#1 := by
  rw [slt_word]
  split
  · decide
  · decide

theorem tile_first : ∀ f : Fin 4, (Scalar.select 1#1 (BitVec.ofNat 32 f.val) 3#32).toNat = f.val := by decide
theorem tile_last : ∀ f : Fin 4, (Scalar.select 0#1 (BitVec.ofNat 32 f.val) 3#32).toNat = 3 := by decide

/-- The tile a window is at: the grid's where the block is in use, the last one where it is not. -/
theorem tile_word (f : Fin 4) (a : Fin 160) (n : Fin 161) :
    (Scalar.select (Scalar.cmpi .slt (BitVec.ofNat 32 a.val) (BitVec.ofNat 32 n.val)) (BitVec.ofNat 32 f.val) 3#32).toNat
      = if a.val < n.val then f.val else 3 := by
  rw [slt_word]
  split
  · exact tile_first f
  · exact tile_last f

/-- The block a window is at: the grid's, held at the last one in use. -/
theorem block_word : ∀ (a : Fin 160) (n : Fin 161), 1 ≤ n.val →
    (Scalar.minsi (BitVec.ofNat 32 a.val) (Scalar.subi (BitVec.ofNat 32 n.val) 1#32)).toNat = min a.val (n.val - 1) := by
  decide +kernel

/-- The first tile's test. -/
theorem cond2_word : ∀ f : Fin 4, Scalar.cmpi .ne (Scalar.extui (Scalar.cmpi .eq (BitVec.ofNat 32 f.val) 0#32) : BitVec 32) 0#32
    = if f.val = 0 then 1#1 else 0#1 := by decide

/-- The later tiles' test. -/
theorem cond3_word : ∀ f : Fin 4, Scalar.cmpi .ne (Scalar.extui (Scalar.cmpi .sgt (BitVec.ofNat 32 f.val) 0#32) : BitVec 32) 0#32
    = if f.val = 0 then 0#1 else 1#1 := by decide

/-- A block's number, as a word. -/
theorem word_val : ∀ a : Fin 160, (Scalar.indexCast (BitVec.ofNat 32 a.val) : Index).toNat = a.val := by decide +kernel

end Cert.Words
-- ==== Proof.ExpertsTables.lean ====
module

public import proofs.«01_k».proof.Proof.Gen.ExpertsIdeal.Launch
public import Idealize.ShloMosaic.Lib.Pipeline.Kit
public import proofs.«01_k».proof.Proof.ExpertsWords
public import Idealize.ShloMosaic.Lib.Pipeline.TableIdle
public import Idealize.ShloMosaic.Lib.Affine
public import Idealize.ShloMosaic.PureOps.Ideal
public import Idealize.ShloMosaic.Init

@[expose] public section

set_option maxRecDepth 16384

noncomputable section

namespace Cert.ExpertsIdeal.Rows

open Cert.ExpertsIdeal Cert.ExpertsIdeal.Gen
open Idealize.ShloMosaic Idealize.ShloMosaic.TcCoe
open Cert.Words

/-! # The experts' tables

The kernel is given which expert each block of 512 rows goes to, and how many blocks are in use. Here: what those
two tables make of the grid's points, for any contents in range. -/

/-- Tables in range: every block's expert is one of 32, and between 1 and 160 blocks are in use. -/
structure Tables where
  /-- each block's expert -/
  T0 : S160.Idx → BitVec 32
  /-- how many blocks are in use -/
  T1 : S1.Idx → BitVec 32
  /-- the experts are in range -/
  lt : ∀ x, (T0 x).toNat < 32
  /-- some block is in use -/
  pos : ∀ x, 1 ≤ (T1 x).toNat
  /-- no more than there are -/
  le : ∀ x, (T1 x).toNat ≤ 160

/-- The one index of the count's table. -/
abbrev one : S1.Idx := fun a => match a with
  | ⟨0, _⟩ => ⟨0, Nat.one_pos⟩

theorem one_eq (x : S1.Idx) : x = one := by
  funext (a : Fin 1)
  obtain rfl : a = 0 := Subsingleton.elim _ _
  exact Subsingleton.elim (α := Fin 1) (x 0) _

namespace Tables

variable (tb : Tables)

/-- How many blocks are in use. -/
def nv : ℕ := (tb.T1 one).toNat

theorem nv_pos : 1 ≤ tb.nv := tb.pos one
theorem nv_le : tb.nv ≤ 160 := tb.le one

theorem T1_eq (x : S1.Idx) : tb.T1 x = BitVec.ofNat 32 tb.nv := by
  rw [one_eq x]
  exact (BitVec.ofNat_toNat 32 _ ▸ by simp [nv] : tb.T1 one = BitVec.ofNat 32 tb.nv)

set_option backward.proofsInPublic true in
/-- The tables as the region takes them. -/
def pf : pre0.Contents (Elt Ideal) := fun | ⟨0, _⟩ => tb.T0 | ⟨1, _⟩ => tb.T1 | ⟨_ + 2, h⟩ => absurd h (by simp)

end Tables

variable (tb : Tables)

theorem cond1_eq (i : grid0.Coords) (x : S1.Idx) :
    k0_cond1 i (tb.T1 x) = if (i 0).val < tb.nv then 1#1 else 0#1 := by
  rw [tb.T1_eq]
  exact lt_word ⟨(i 0).val, (i 0).isLt⟩ ⟨tb.nv, Nat.lt_succ_of_le tb.nv_le⟩

theorem cond2_eq (i : grid0.Coords) : k0_cond2 i = if (i 1).val = 0 then 1#1 else 0#1 := cond2_word ⟨(i 1).val, (i 1).isLt⟩
theorem cond3_eq (i : grid0.Coords) : k0_cond3 i = if (i 1).val = 0 then 0#1 else 1#1 := cond3_word ⟨(i 1).val, (i 1).isLt⟩

/-! ## The windows' block indices -/

/-- The rows' window, and the result's: at the grid's block, held at the last one in use. -/
theorem t0_eq (i : grid0.Coords) : cc0_transform_0 inb_S1_S1_0 numel1_S1 tb.pf i = ![min (i 0).val (tb.nv - 1), 0] := by
  have h := block_word ⟨(i 0).val, (i 0).isLt⟩ ⟨tb.nv, Nat.lt_succ_of_le tb.nv_le⟩ tb.nv_pos
  have e := tb.T1_eq
  unfold cc0_transform_0
  dsimp only
  rw [show tb.pf.at 1 (Rect.unit (s := S1) ![0] S1.size inb_S1_S1_0) numel1_S1 = BitVec.ofNat 32 tb.nv from e _]
  exact congrArg (fun n => ![n, 0]) h

theorem t5_eq (i : grid0.Coords) : cc0_transform_5 inb_S1_S1_0 numel1_S1 tb.pf i = ![min (i 0).val (tb.nv - 1), 0] :=
  t0_eq tb i

/-- A block's number as an index of the experts' table. -/
def at0 (i : grid0.Coords) : S160.Idx := fun a => match a with
  | ⟨0, _⟩ => ⟨(i 0).val, (i 0).isLt⟩

/-- A block's expert. -/
def expert (i : grid0.Coords) : ℕ := (tb.T0 (at0 i)).toNat

theorem expert_lt (i : grid0.Coords) : expert tb i < 32 := tb.lt _

/-- The tile the weights' windows are at. -/
def tile (i : grid0.Coords) : ℕ := if (i 0).val < tb.nv then (i 1).val else 3

theorem tile_lt (i : grid0.Coords) : tile tb i < 4 := by
  unfold tile
  split
  · exact (i 1).isLt
  · omega

theorem table0 (i : grid0.Coords) (h : ∀ a, (k0_off1 i) a + S1.size a ≤ S160.size a) :
    tb.pf.at 0 (Rect.unit (s := S160) (k0_off1 i) S1.size h) numel1_S1 = tb.T0 (at0 i) := by
  refine congrArg tb.T0 (funext fun (a : Fin 1) => ?_)
  obtain rfl : a = 0 := Subsingleton.elim _ _
  have e := word_val ⟨(i 0).val, (i 0).isLt⟩
  refine Fin.ext ((Rect.emb_apply (Rect.unit (s := S160) (k0_off1 i) S1.size h) _ (0 : Fin S160.rank)).trans ?_)
  show (Scalar.indexCast (BitVec.ofNat 32 (i 0).val) : Index).toNat + 1 * ((Shape.Idx.first _ : S1.Idx) 0).val = (i 0).val
  have z : ((Shape.Idx.first (s := S1) (numel1_S1.symm ▸ Nat.one_pos) : S1.Idx) 0).val = 0 := Nat.lt_one_iff.mp (Fin.isLt _)
  dsimp only at e
  omega

theorem t1_eq (i : grid0.Coords) : cc0_transform_1 k0_off1_inb numel1_S1 inb_S1_S1_0 tb.pf i = ![expert tb i, 0, tile tb i] := by
  have h := tile_word ⟨(i 1).val, (i 1).isLt⟩ ⟨(i 0).val, (i 0).isLt⟩ ⟨tb.nv, Nat.lt_succ_of_le tb.nv_le⟩
  have e0 := table0 tb i (k0_off1_inb i)
  have e := tb.T1_eq
  unfold cc0_transform_1
  dsimp only
  rw [show tb.pf.at 1 (Rect.unit (s := S1) ![0] S1.size inb_S1_S1_0) numel1_S1 = BitVec.ofNat 32 tb.nv from e _]
  exact congrArg₂ (fun (w : BitVec 32) n => ![w.toNat, 0, n]) e0 h

theorem t2_eq (i : grid0.Coords) : cc0_transform_2 k0_off1_inb numel1_S1 inb_S1_S1_0 tb.pf i = ![expert tb i, 0, tile tb i] :=
  t1_eq tb i

theorem t3_eq (i : grid0.Coords) : cc0_transform_3 k0_off1_inb numel1_S1 inb_S1_S1_0 tb.pf i = ![expert tb i, tile tb i, 0] := by
  have h := tile_word ⟨(i 1).val, (i 1).isLt⟩ ⟨(i 0).val, (i 0).isLt⟩ ⟨tb.nv, Nat.lt_succ_of_le tb.nv_le⟩
  have e0 := table0 tb i (k0_off1_inb i)
  have e := tb.T1_eq
  unfold cc0_transform_3
  dsimp only
  rw [show tb.pf.at 1 (Rect.unit (s := S1) ![0] S1.size inb_S1_S1_0) numel1_S1 = BitVec.ofNat 32 tb.nv from e _]
  exact congrArg₂ (fun (w : BitVec 32) n => ![w.toNat, n, 0]) e0 h

theorem t4_eq (i : grid0.Coords) : cc0_transform_4 k0_off1_inb numel1_S1 tb.pf i = ![expert tb i, 0, 0] := by
  have e0 := table0 tb i (k0_off1_inb i)
  exact congrArg (fun (w : BitVec 32) => ![w.toNat, 0, 0]) e0

/-! ## Every block inside its array -/

theorem ok : ok0 (F := Ideal) tb.pf := by
  have hn := tb.nv_pos
  have hl := tb.nv_le
  refine ⟨fun i => ⟨?_, .inr (Affine.block_words_dvd (s := S81920x2048) (p := EltTy.packing .bf16) (by decide) (by decide))⟩,
    fun i => ⟨?_, .inr (Affine.block_words_dvd (s := S32x2048x4096) (p := EltTy.packing .bf16) (by decide) (by decide))⟩,
    fun i => ⟨?_, .inl rfl⟩, fun i => ⟨?_, .inl rfl⟩, fun i => ⟨?_, .inl rfl⟩, fun i => ⟨?_, .inl rfl⟩⟩
  · rw [t0_eq]
    refine Fin.forall_fin_two.mpr ⟨?_, (by decide : (0 + 1) * 2048 ≤ 2048)⟩
    show (min (i 0).val (tb.nv - 1) + 1) * 512 ≤ 81920
    omega
  · rw [t1_eq]
    have := expert_lt tb i
    have := tile_lt tb i
    refine Fin.forall_fin_succ.mpr ⟨?_, Fin.forall_fin_two.mpr ⟨(by decide : (0 + 1) * 2048 ≤ 2048), ?_⟩⟩
    · show (expert tb i + 1) * 1 ≤ 32
      omega
    · show (tile tb i + 1) * 1024 ≤ 4096
      omega
  · rw [t2_eq]
    have := expert_lt tb i
    have := tile_lt tb i
    refine Fin.forall_fin_succ.mpr ⟨?_, Fin.forall_fin_two.mpr ⟨(by decide : (0 + 1) * 1 ≤ 1), ?_⟩⟩
    · show (expert tb i + 1) * 1 ≤ 32
      omega
    · show (tile tb i + 1) * 1024 ≤ 4096
      omega
  · rw [t3_eq]
    have := expert_lt tb i
    have := tile_lt tb i
    refine Fin.forall_fin_succ.mpr ⟨?_, Fin.forall_fin_two.mpr ⟨?_, (by decide : (0 + 1) * 2048 ≤ 2048)⟩⟩
    · show (expert tb i + 1) * 1 ≤ 32
      omega
    · show (tile tb i + 1) * 512 ≤ 2048
      omega
  · rw [t4_eq]
    have := expert_lt tb i
    refine Fin.forall_fin_succ.mpr ⟨?_, Fin.forall_fin_two.mpr ⟨(by decide : (0 + 1) * 1 ≤ 1), (by decide : (0 + 1) * 2048 ≤ 2048)⟩⟩
    show (expert tb i + 1) * 1 ≤ 32
    omega
  · rw [t5_eq]
    refine Fin.forall_fin_two.mpr ⟨?_, (by decide : (0 + 1) * 2048 ≤ 2048)⟩
    show (min (i 0).val (tb.nv - 1) + 1) * 512 ≤ 81920
    omega

/-- The tables as admissible contents, and the pipeline at them. -/
def adm : (pcfg0 (F := Ideal)).Adm := ⟨tb.pf, ok tb⟩
/-- The pipeline at these tables. -/
abbrev cfgA : Pipeline.Cfg sig Λ₀ := cfg0 (F := Ideal) (adm tb)
/-- The same, as the one pipeline of the program. -/
abbrev pcs : Fin 1 → Pipeline.Cfg sig Λ₀ := Pipeline.pin (pcfgs (F := Ideal)) fun _ => adm tb
/-- A point's coordinates. -/
abbrev crd (t : Fin (cfgA tb).N) : (cfgA tb).grid.Coords := (cfgA tb).grid.coords t

theorem N_eq : (cfgA tb).N = 640 := N_0

theorem stride_0 : grid0.stride 0 = 4 := by decide
theorem stride_1 : grid0.stride 1 = 1 := by decide

/-- A point's block. -/
theorem crd_0 (t : Fin (cfgA tb).N) : (crd tb t 0).val = t.val / 4 := by
  have h : t.val < 640 := lt_of_lt_of_eq t.isLt (N_eq tb)
  rw [show (crd tb t 0).val = t.val / 4 % 160 from Pipeline.Grid.coords_val (G := grid0) t 0 stride_0 rfl]
  omega

/-- A point's tile. -/
theorem crd_1 (t : Fin (cfgA tb).N) : (crd tb t 1).val = t.val % 4 := by
  rw [show (crd tb t 1).val = t.val / 1 % 4 from Pipeline.Grid.coords_val (G := grid0) t 1 stride_1 rfl]
  omega

/-- The result's block at a point. -/
theorem index5 (t : Fin (cfgA tb).N) : ((cfgA tb).win (5 : Fin 6)).index t = ![min (t.val / 4) (tb.nv - 1), 0] := by
  rw [← crd_0 tb t]
  exact t5_eq tb (crd tb t)

/-- The result's block is written back after its last tile, and after the last point. -/
theorem flush5 (t : Fin (cfgA tb).N) :
    ((cfgA tb).win (5 : Fin 6)).flush t = decide (t.val + 1 = 640 ∨ (t.val % 4 = 3 ∧ t.val / 4 + 1 < tb.nv)) := by
  have h : t.val < 640 := lt_of_lt_of_eq t.isLt (N_eq tb)
  rw [Bool.eq_iff_iff, Pipeline.Window.flush_out _ rfl, decide_eq_true_iff]
  have e : ∀ h : t.val + 1 < (cfgA tb).N, (((cfgA tb).win (5 : Fin 6)).index ⟨t.val + 1, h⟩ ≠ ((cfgA tb).win (5 : Fin 6)).index t
      ↔ min ((t.val + 1) / 4) (tb.nv - 1) ≠ min (t.val / 4) (tb.nv - 1)) := by
    intro h
    rw [index5, index5]
    constructor
    · intro hne he
      exact hne (congrArg (fun n => ![n, 0]) he)
    · intro hne he
      exact hne (congrFun he 0)
  constructor
  · rintro (he | ⟨h1, h2⟩)
    · exact Or.inl (he.trans (N_eq tb))
    · have := (e h1).mp h2
      right
      omega
  · rintro (he | ⟨h1, h2⟩)
    · exact Or.inl (he.trans (N_eq tb).symm)
    · by_cases hl : t.val + 1 = 640
      · exact Or.inl (hl.trans (N_eq tb).symm)
      · refine Or.inr ⟨lt_of_lt_of_eq (by omega) (N_eq tb).symm, (e _).mpr (by omega)⟩

/-- The result is left alone at the blocks not in use. -/
theorem idle5 (t : Fin (cfgA tb).N) : (cfgA tb).idle (5 : Fin 6) ((cfgA tb).grid.coords t) = decide (tb.nv ≤ t.val / 4) := by
  have e : tb.pf.atD 1 ![0] = tb.T1 one := by
    show dite _ _ _ = _
    rw [dif_pos (by decide)]
    exact congrArg tb.T1 (one_eq _)
  show (!(k0_cond1 (crd tb t) (tb.pf.atD 1 ![0]) == 1#1 && k0_cond2 (crd tb t) == 1#1)
    && !(k0_cond1 (crd tb t) (tb.pf.atD 1 ![0]) == 1#1 && k0_cond3 (crd tb t) == 1#1)) = _
  rw [e, cond1_eq, cond2_eq, cond3_eq, crd_0, crd_1]
  by_cases h1 : t.val / 4 < tb.nv
  · rw [if_pos h1, decide_eq_false (by omega)]
    by_cases h2 : t.val % 4 = 0
    · simp only [h2, if_true]; decide
    · simp only [h2, if_false]; decide
  · rw [if_neg h1, decide_eq_true (by omega)]
    by_cases h2 : t.val % 4 = 0
    · simp only [h2, if_true]; decide
    · simp only [h2, if_false]; decide

/-- Before which points the result's buffer holds nothing the kernel stored: before each block in use. -/
def freshAt (n : ℕ) : Bool := decide ((n % 4 = 0 ∧ n < 4 * tb.nv) ∨ n = 640)

theorem fresh5 (t : Fin (cfgA tb).N) : (cfgA tb).fresh (5 : Fin 6) t.val = freshAt tb t.val := by
  have hn := tb.nv_pos
  have hl := tb.nv_le
  refine Pipeline.Cfg.fresh_tab (cfgA tb) (5 : Fin 6) (freshAt tb) ?_ (fun s => ?_) t.val (Nat.le_of_lt t.isLt)
  · exact decide_eq_true (Or.inl ⟨rfl, by omega⟩)
  · have h : s.val < 640 := lt_of_lt_of_eq s.isLt (N_eq tb)
    rw [flush5, idle5]
    unfold freshAt
    rw [← Bool.decide_and, ← Bool.decide_or, decide_eq_decide]
    omega

end Cert.ExpertsIdeal.Rows

end
-- ==== Proof.ExpertsPre.lean ====
module

public import proofs.«01_k».proof.Defs
public import proofs.«01_k».proof.Proof.ExpertsTables
public import proofs.«01_k».proof.Proof.Finite
public import Idealize.ShloMosaic.Lib.ReduceAll
public import Idealize.ShloMosaic.Lib.Decide
public import Idealize.ShloMosaic.Lib.Pointwise

@[expose] public section
set_option maxRecDepth 16384
noncomputable section
open Idealize.ShloMosaic
namespace Cert.Pre_ranged

/-- The side conditions of the precondition's operations. -/
theorem shapes : Cert.Pre_ranged.Facts where
  bcast_S_S160 := by decide
  reducesTo_S160_S_d0 := by decide
  h_S_ := by decide
  shapeCasts_S1_S_ := by decide

/-- The bit of a truth is one just where it's true. -/
theorem ofBool_one (b : Bool) : BitVec.ofBool b = 1#1 ↔ b = true := by cases b <;> decide

/-- A word between two small numbers, as a number. -/
theorem number (x : BitVec 32) (a b : ℕ) (ha : a < 1000) (hb : b < 1000)
    (h1 : IntOp.cmpi .sge x (BitVec.ofNat 32 a) = 1#1) (h2 : IntOp.cmpi .sle x (BitVec.ofNat 32 b) = 1#1) :
    a ≤ x.toNat ∧ x.toNat ≤ b := by
  simp only [IntOp.cmpi, ofBool_one, BitVec.sle_eq_decide, decide_eq_true_eq, BitVec.toInt_eq_toNat_cond, BitVec.toNat_ofNat] at h1 h2
  have := x.isLt
  omega

/-- The same below a strict bound. -/
theorem number_lt (x : BitVec 32) (a b : ℕ) (ha : a < 1000) (hb : b < 1000)
    (h1 : IntOp.cmpi .sge x (BitVec.ofNat 32 a) = 1#1) (h2 : IntOp.cmpi .slt x (BitVec.ofNat 32 b) = 1#1) :
    a ≤ x.toNat ∧ x.toNat < b := by
  simp only [IntOp.cmpi, ofBool_one, BitVec.sle_eq_decide, BitVec.slt_eq_decide, decide_eq_true_eq, BitVec.toInt_eq_toNat_cond, BitVec.toNat_ofNat] at h1 h2
  have := x.isLt
  omega

/-- What the precondition says: each block's expert is one of 32, and between 1 and 160 blocks are in use. -/
theorem inRange [Facts] (x0 : FVec Ideal S81920x2048 .bf16) (x1 : IVec S160 32) (x2 : IVec S1 32)
    (x3 : FVec Ideal S32x2048x4096 .bf16) (x4 : FVec Ideal S32x1x4096 .f32) (x5 : FVec Ideal S32x2048x2048 .f32)
    (x6 : FVec Ideal S32x1x2048 .f32) (h : fn (F := Ideal) x0 x1 x2 x3 x4 x5 x6 = fun _ => 1#1) :
    (∀ i, (x1 i).toNat < 32) ∧ (∀ i, 1 ≤ (x2 i).toNat ∧ (x2 i).toNat ≤ 160) := by
  haveI : Subsingleton S_.Idx := ⟨fun a b => funext fun k => k.elim0⟩
  have e := congrFun h (fun a => a.elim0)
  dsimp only [fn] at e
  obtain ⟨e, e3⟩ := Cert.Pre_finite.both _ _ e
  obtain ⟨e1, e2⟩ := Cert.Pre_finite.both _ _ e
  constructor
  · intro i
    obtain ⟨a, b⟩ := Cert.Pre_finite.both _ _ (Host.reduce_andi_all _ _ _ _ _ e1 i)
    exact (number_lt (x1 i) 0 32 (by decide) (by decide) a b).2
  · intro i
    have k : ∀ x : S1.Idx, x = i := fun x => (Cert.ExpertsIdeal.Rows.one_eq x).trans (Cert.ExpertsIdeal.Rows.one_eq i).symm
    have w : ∀ j, shapeCast S_ x2 Facts.shapeCasts_S1_S_ j = x2 i := fun j => congrArg x2 (k _)
    have e2' : IntOp.cmpi .sge (shapeCast S_ x2 Facts.shapeCasts_S1_S_ fun a => a.elim0) (BitVec.ofNat 32 1) = 1#1 := e2
    have e3' : IntOp.cmpi .sle (shapeCast S_ x2 Facts.shapeCasts_S1_S_ fun a => a.elim0) (BitVec.ofNat 32 160) = 1#1 := e3
    rw [w] at e2' e3'
    exact number _ 1 160 (by decide) (by decide) e2' e3'
end Cert.Pre_ranged

namespace Cert.On_in_use

/-- The side conditions of the mask's operations. -/
theorem shapes : Cert.On_in_use.Facts where
  shapeCasts_S1_S_ := by decide
  bcast_S_S81920x2048 := by decide

/-- Where the mask is set: the rows of the blocks in use. -/
theorem row_lt [Facts] (x0 : FVec Ideal S81920x2048 .bf16) (x1 : IVec S160 32) (x2 : IVec S1 32)
    (x3 : FVec Ideal S32x2048x4096 .bf16) (x4 : FVec Ideal S32x1x4096 .f32) (x5 : FVec Ideal S32x2048x2048 .f32)
    (x6 : FVec Ideal S32x1x2048 .f32) (i : S81920x2048.Idx) (o : S1.Idx) (hle : (x2 o).toNat ≤ 160)
    (h : fn (F := Ideal) x0 x1 x2 x3 x4 x5 x6 i = 1#1) : (i 0).val < 512 * (x2 o).toNat := by
  have k : ∀ x : S1.Idx, x = o := fun x => (Cert.ExpertsIdeal.Rows.one_eq x).trans (Cert.ExpertsIdeal.Rows.one_eq o).symm
  have w : ∀ j, shapeCast S_ x2 Facts.shapeCasts_S1_S_ j = x2 o := fun j => congrArg x2 (k _)
  have e : IntOp.cmpi .slt (BitVec.ofNat 32 (i 0).val) (512#32 * shapeCast S_ x2 Facts.shapeCasts_S1_S_ fun a => a.elim0) = 1#1 := by
    refine Eq.trans ?_ h
    dsimp only [fn]
    refine congrArg (IntOp.cmpi .slt _) (congrArg (512#32 * ·) ?_)
    rw [w]
    exact (w _).symm
  rw [w] at e
  have hi : (i 0).val < 81920 := (i 0).isLt
  generalize (i 0).val = r at e hi ⊢
  simp only [IntOp.cmpi, Cert.Pre_ranged.ofBool_one, BitVec.slt_eq_decide, decide_eq_true_eq, BitVec.toInt_eq_toNat_cond, BitVec.toNat_mul, BitVec.toNat_ofNat] at e
  omega
end Cert.On_in_use
end
end
-- ==== Proof.ExpertsRun.lean ====
module

public import proofs.«01_k».proof.Proof.ExpertsTables
public import proofs.«01_k».proof.Proof.Gen.ExpertsIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Rows

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The experts' run, at any tables in range

The three ways through the body are the runs the package finds, which name no table; which of them a point takes, when
the result's buffer is written back and when it holds nothing yet are what ExpertsTables.lean says of any tables in
range. -/

local notation "𝕄" => MT nD τ sig Unit (Elt Ideal) ℕ (UR sig nD τ) ℕ

/-- The resource algebra of the pipeline's staging cells. -/
abbrev EP : Emb (UR sig nD τ) 𝕄 := emb₁

variable (tb : Tables)
variable (m : (ℓ : Loc nD τ sig) → Buf (Elt Ideal) ℓ) (ρ : Dev nD → PrngReg)

/-- The launch memory holds these tables. -/
def Pinned (m : (ℓ : Loc nD τ sig) → Buf (Elt Ideal) ℓ) : Prop :=
  (∀ c : Dev nD, m ((c : Thread nD τ).loc main_arg1) = tb.T0)
  ∧ (∀ c : Dev nD, m ((c : Thread nD τ).loc main_arg2) = tb.T1)

/-- Each window's current staging memref at point `t`, spelled as the pipeline passes it, and its wholeness. -/
abbrev ms0_0 (t : Fin (cfgA tb).N) : Memref sig .tc .vmem S512x2048 .bf16 := spec0_0.stage ((cfgA tb).slots t (0 : Fin 6))
abbrev hs0_0 (t : Fin (cfgA tb).N) : (ms0_0 tb t).IsWhole := hstage0_0 (((cfgA tb).slots t (0 : Fin 6)).cast nbuf0_0)
abbrev ms0_1 (t : Fin (cfgA tb).N) : Memref sig .tc .vmem S1x2048x1024 .bf16 := spec0_1.stage ((cfgA tb).slots t (1 : Fin 6))
abbrev hs0_1 (t : Fin (cfgA tb).N) : (ms0_1 tb t).IsWhole := hstage0_1 (((cfgA tb).slots t (1 : Fin 6)).cast nbuf0_1)
abbrev ms0_2 (t : Fin (cfgA tb).N) : Memref sig .tc .vmem S1x1x1024 .f32 := spec0_2.stage ((cfgA tb).slots t (2 : Fin 6))
abbrev hs0_2 (t : Fin (cfgA tb).N) : (ms0_2 tb t).IsWhole := hstage0_2 (((cfgA tb).slots t (2 : Fin 6)).cast nbuf0_2)
abbrev ms0_3 (t : Fin (cfgA tb).N) : Memref sig .tc .vmem S1x512x2048 .f32 := spec0_3.stage ((cfgA tb).slots t (3 : Fin 6))
abbrev hs0_3 (t : Fin (cfgA tb).N) : (ms0_3 tb t).IsWhole := hstage0_3 (((cfgA tb).slots t (3 : Fin 6)).cast nbuf0_3)
abbrev ms0_4 (t : Fin (cfgA tb).N) : Memref sig .tc .vmem S1x1x2048 .f32 := spec0_4.stage ((cfgA tb).slots t (4 : Fin 6))
abbrev hs0_4 (t : Fin (cfgA tb).N) : (ms0_4 tb t).IsWhole := hstage0_4 (((cfgA tb).slots t (4 : Fin 6)).cast nbuf0_4)
abbrev ms0_5 (t : Fin (cfgA tb).N) : Memref sig .tc .vmem S512x2048 .f32 := spec0_5.stage ((cfgA tb).slots t (5 : Fin 6))
abbrev hs0_5 (t : Fin (cfgA tb).N) : (ms0_5 tb t).IsWhole := hstage0_5 (((cfgA tb).slots t (5 : Fin 6)).cast nbuf0_5)

/-! ## The windows' blocks -/

/-- Window `w`'s block at point `t`, read off its array at launch. -/
def iblk (c : Dev nD) (w : Fin (cfgA tb).W) (t : Fin (cfgA tb).N) : (((cfgA tb).win w).xblock (crd tb t)).Idx → Elt Ideal ((cfgA tb).win w).elt :=
  (((cfgA tb).win w).blk t).view.read (Elt Ideal) ((s₀ m ρ).mem (((cfgA tb).win w).arr.view.loc (c : Thread nD τ)))

/-! ## The two tests of the body -/

abbrev P0_0 (t : Fin (cfgA tb).N) : Prop := k0_cond1 (crd tb t) (View.readAt (Elt Ideal) (tbM0_1).view (Rect.unit (s := S1) ![0] S1.size inb_S1_S1_0).toLoadRect (tb.T1) (Shape.Idx.first (numel1_S1.symm ▸ Nat.one_pos))) = 1#1
abbrev P0_1 (t : Fin (cfgA tb).N) : Prop := k0_cond2 (crd tb t) = 1#1

/-! ## Which way a point goes -/

/-- The first test: is the block in use? -/
theorem P0_0_iff (t : Fin (cfgA tb).N) : P0_0 tb t ↔ t.val / 4 < tb.nv := by
  have e : P0_0 tb t ↔ k0_cond1 (crd tb t) (tb.T1 one) = 1#1 := by
    refine Eq.to_iff (congrArg (fun v => k0_cond1 (crd tb t) v = 1#1) ?_)
    exact congrArg tb.T1 (one_eq _)
  rw [e, cond1_eq, crd_0]
  split
  · simpa
  · simp; omega

/-- The second: is this the block's first tile? -/
theorem cond2_iff (t : Fin (cfgA tb).N) : k0_cond2 (crd tb t) = 1#1 ↔ t.val % 4 = 0 := by
  rw [cond2_eq, crd_1]
  split <;> simpa

/-- The third: is it a later tile? -/
theorem cond3_iff (t : Fin (cfgA tb).N) : k0_cond3 (crd tb t) = 1#1 ↔ ¬t.val % 4 = 0 := by
  rw [cond3_eq, crd_1]
  split <;> simpa

/-- At a first tile of a block in use the first branch is taken. -/
theorem hyps0_A (t : Fin (cfgA tb).N) (q0 : P0_0 tb t) (q1 : P0_1 tb t) :
    P0_0 tb t ∧ ((k0_cond2 (crd tb t) = 1#1) ∧ (¬(k0_cond3 (crd tb t) = 1#1))) :=
  ⟨q0, q1, fun h => (cond3_iff tb t).mp h ((cond2_iff tb t).mp q1)⟩

/-- At a later tile the other one is. -/
theorem hyps0_B (t : Fin (cfgA tb).N) (q0 : P0_0 tb t) (q1 : ¬P0_1 tb t) :
    P0_0 tb t ∧ ((¬(k0_cond2 (crd tb t) = 1#1)) ∧ (k0_cond3 (crd tb t) = 1#1)) :=
  ⟨q0, q1, (cond3_iff tb t).mpr fun h => q1 ((cond2_iff tb t).mpr h)⟩

/-- At a block's first tile the buffer is fresh, and it isn't written back. -/
theorem sched0_A (t : Fin (cfgA tb).N) (q0 : P0_0 tb t) (q1 : P0_1 tb t) :
    (cfgA tb).idle (5 : Fin 6) ((cfgA tb).grid.coords t) = false ∧ ((cfgA tb).win (5 : Fin 6)).flush t = false
      ∧ (cfgA tb).fresh (5 : Fin 6) t.val = true := by
  have h0 := (P0_0_iff tb t).mp q0
  have h1 := (cond2_iff tb t).mp q1
  have ht : t.val < 640 := lt_of_lt_of_eq t.isLt (N_eq tb)
  rw [idle5, flush5, fresh5]
  exact ⟨decide_eq_false (by omega), decide_eq_false (by omega), decide_eq_true (by omega)⟩

/-- At its later tiles the buffer holds what the tile before left. -/
theorem sched0_B (t : Fin (cfgA tb).N) (q0 : P0_0 tb t) (q1 : ¬P0_1 tb t) :
    (cfgA tb).idle (5 : Fin 6) ((cfgA tb).grid.coords t) = false ∧ (cfgA tb).fresh (5 : Fin 6) t.val = false := by
  have h0 := (P0_0_iff tb t).mp q0
  have h1 : ¬t.val % 4 = 0 := fun h => q1 ((cond2_iff tb t).mpr h)
  have ht : t.val < 640 := lt_of_lt_of_eq t.isLt (N_eq tb)
  rw [idle5, fresh5]
  exact ⟨decide_eq_false (by omega), decide_eq_false (by omega)⟩

/-- At a block not in use the buffer is left as it is. -/
theorem sched0_C (t : Fin (cfgA tb).N) (q0 : ¬P0_0 tb t) :
    (cfgA tb).idle (5 : Fin 6) ((cfgA tb).grid.coords t) = true ∧ (cfgA tb).fresh (5 : Fin 6) t.val = false := by
  have h0 : ¬t.val / 4 < tb.nv := fun h => q0 ((P0_0_iff tb t).mpr h)
  have ht : t.val < 640 := lt_of_lt_of_eq t.isLt (N_eq tb)
  rw [idle5, fresh5]
  exact ⟨decide_eq_true (by omega), decide_eq_false (by omega)⟩

/-! ## What the result's buffer holds after each point -/

/-- What the result's buffer holds after a point, from what it held before it. -/
def step0 (c : Dev nD) (t : Fin (cfgA tb).N) (prev : (S512x2048.Idx → Elt Ideal .f32)) : (S512x2048.Idx → Elt Ideal .f32) :=
  if q0 : P0_0 tb t then
    if q1 : P0_1 tb t then
      out0_A_5 c (crd tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t) (tb.T0) (tb.T1) (iblk tb m ρ c (0 : Fin 6) t) (iblk tb m ρ c (1 : Fin 6) t) (iblk tb m ρ c (2 : Fin 6) t) (iblk tb m ρ c (3 : Fin 6) t) (iblk tb m ρ c (4 : Fin 6) t) (hyps0_A tb t q0 q1).1 (hyps0_A tb t q0 q1).2.1 (hyps0_A tb t q0 q1).2.2
    else
      out0_B_5 c (crd tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t) (tb.T0) (tb.T1) (iblk tb m ρ c (0 : Fin 6) t) (iblk tb m ρ c (1 : Fin 6) t) (iblk tb m ρ c (2 : Fin 6) t) (iblk tb m ρ c (3 : Fin 6) t) (iblk tb m ρ c (4 : Fin 6) t) prev (hyps0_B tb t q0 q1).1 (hyps0_B tb t q0 q1).2.1 (hyps0_B tb t q0 q1).2.2
  else
    (if (cfgA tb).fresh (5 : Fin 6) t.val then default else prev)

/-- What the result's buffer holds after the points up to `n`. -/
def traj0 (c : Dev nD) : (n : ℕ) → n < (cfgA tb).N → (S512x2048.Idx → Elt Ideal .f32)
  | 0, h => step0 tb m ρ c ⟨0, h⟩ default
  | n + 1, h => step0 tb m ρ c ⟨n + 1, h⟩ (traj0 c n (Nat.lt_of_succ_lt h))

/-- What it holds before a point; before the first, anything. -/
def prev0 (c : Dev nD) (t : Fin (cfgA tb).N) : (S512x2048.Idx → Elt Ideal .f32) :=
  if h : t.val = 0 then default else traj0 tb m ρ c (t.val - 1) (by omega)

/-- Each point is one step. -/
theorem traj0_eq (c : Dev nD) (t : Fin (cfgA tb).N) : traj0 tb m ρ c t.val t.isLt = step0 tb m ρ c t (prev0 tb m ρ c t) := by
  obtain ⟨n, hn⟩ := t
  cases n with
  | zero => rfl
  | succ n => unfold prev0; simp only [Nat.add_one_ne_zero, dif_neg, not_false_eq_true]; rfl

/-- At a block's first tile. -/
theorem step0_A (c : Dev nD) (t : Fin (cfgA tb).N) (prev : (S512x2048.Idx → Elt Ideal .f32)) (q0 : P0_0 tb t) (q1 : P0_1 tb t) :
    step0 tb m ρ c t prev = out0_A_5 c (crd tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t) (tb.T0) (tb.T1) (iblk tb m ρ c (0 : Fin 6) t) (iblk tb m ρ c (1 : Fin 6) t) (iblk tb m ρ c (2 : Fin 6) t) (iblk tb m ρ c (3 : Fin 6) t) (iblk tb m ρ c (4 : Fin 6) t) (hyps0_A tb t q0 q1).1 (hyps0_A tb t q0 q1).2.1 (hyps0_A tb t q0 q1).2.2 := by
  unfold step0; simp only [dif_pos q0, dif_pos q1]

/-- At its later tiles. -/
theorem step0_B (c : Dev nD) (t : Fin (cfgA tb).N) (prev : (S512x2048.Idx → Elt Ideal .f32)) (q0 : P0_0 tb t) (q1 : ¬P0_1 tb t) :
    step0 tb m ρ c t prev = out0_B_5 c (crd tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t) (tb.T0) (tb.T1) (iblk tb m ρ c (0 : Fin 6) t) (iblk tb m ρ c (1 : Fin 6) t) (iblk tb m ρ c (2 : Fin 6) t) (iblk tb m ρ c (3 : Fin 6) t) (iblk tb m ρ c (4 : Fin 6) t) prev (hyps0_B tb t q0 q1).1 (hyps0_B tb t q0 q1).2.1 (hyps0_B tb t q0 q1).2.2 := by
  unfold step0; simp only [dif_pos q0, dif_neg q1]

/-- At a block not in use. -/
theorem step0_C (c : Dev nD) (t : Fin (cfgA tb).N) (prev : (S512x2048.Idx → Elt Ideal .f32)) (q0 : ¬P0_0 tb t) :
    step0 tb m ρ c t prev = (if (cfgA tb).fresh (5 : Fin 6) t.val then default else prev) := by
  unfold step0; simp only [dif_neg q0]

/-! ## The pipeline's proof data -/

/-- The same, counting the end as a point. -/
def prev0T (c : Dev nD) (t : Fin ((cfgA tb).N + 1)) : (S512x2048.Idx → Elt Ideal .f32) :=
  if h : t.val = 0 then default else traj0 tb m ρ c (t.val - 1) (by omega)

theorem prev0T_castSucc (c : Dev nD) (t : Fin (cfgA tb).N) : prev0T tb m ρ c t.castSucc = prev0 tb m ρ c t := by
  unfold prev0T prev0; simp only [Fin.val_castSucc]
theorem prev0T_succ (c : Dev nD) (t : Fin (cfgA tb).N) : prev0T tb m ρ c t.succ = traj0 tb m ρ c t.val t.isLt := by
  unfold prev0T; simp only [Fin.val_succ, Nat.add_one_ne_zero, ↓reduceDIte, Nat.add_one_sub_one]

/-- What the body keeps between points: its halves of the two tables. -/
def Phi (m : (ℓ : Loc nD τ sig) → Buf (Elt Ideal) ℓ) (ρ : Dev nD → PrngReg) (c : Dev nD) (t : Fin ((cfgA tb).N + 1)) : sProp 𝕄 :=
  iprop((tbM0_0.view.loc (c : Thread nD τ) ↦{fullShare.right} tb.T0) ∗ (tbM0_1.view.loc (c : Thread nD τ) ↦{fullShare.right} tb.T1))

/-- The proof data of the one pipeline on core `c`. -/
def dats (_ : Fin 1) (c : Dev nD) : Dat τ (Elt Ideal) Unit ℕ (UR sig nD τ) ℕ (cfgA tb) c where
  A w := (s₀ m ρ).mem (((cfgA tb).win w).arr.view.loc (c : Thread nD τ))
  after w t := match w with
    | ⟨0, _⟩ => iblk tb m ρ c (0 : Fin 6) t
    | ⟨1, _⟩ => iblk tb m ρ c (1 : Fin 6) t
    | ⟨2, _⟩ => iblk tb m ρ c (2 : Fin 6) t
    | ⟨3, _⟩ => iblk tb m ρ c (3 : Fin 6) t
    | ⟨4, _⟩ => iblk tb m ρ c (4 : Fin 6) t
    | ⟨5, _⟩ => (traj0 tb m ρ c t.val t.isLt)
  Φ t := Phi tb m ρ c t
  q _ := fullShare
  owed _ := 0

theorem after0_0 (c : Dev nD) (t : Fin (cfgA tb).N) : (dats tb m ρ 0 c).after (0 : Fin 6) t = iblk tb m ρ c (0 : Fin 6) t := rfl
theorem after0_1 (c : Dev nD) (t : Fin (cfgA tb).N) : (dats tb m ρ 0 c).after (1 : Fin 6) t = iblk tb m ρ c (1 : Fin 6) t := rfl
theorem after0_2 (c : Dev nD) (t : Fin (cfgA tb).N) : (dats tb m ρ 0 c).after (2 : Fin 6) t = iblk tb m ρ c (2 : Fin 6) t := rfl
theorem after0_3 (c : Dev nD) (t : Fin (cfgA tb).N) : (dats tb m ρ 0 c).after (3 : Fin 6) t = iblk tb m ρ c (3 : Fin 6) t := rfl
theorem after0_4 (c : Dev nD) (t : Fin (cfgA tb).N) : (dats tb m ρ 0 c).after (4 : Fin 6) t = iblk tb m ρ c (4 : Fin 6) t := rfl
theorem after0_5 (c : Dev nD) (t : Fin (cfgA tb).N) : (dats tb m ρ 0 c).after (5 : Fin 6) t = (traj0 tb m ρ c t.val t.isLt) := rfl

/-! ## What each window's staging buffer holds when the body runs -/

/-- Input 0's buffer holds its block at every point. -/
theorem before0_0 (c : Dev nD) (t : Fin (cfgA tb).N) (d) : (dats tb m ρ 0 c).before (0 : Fin 6) t d = iblk tb m ρ c (0 : Fin 6) t :=
  ((dats tb m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input 1's buffer holds its block at every point. -/
theorem before0_1 (c : Dev nD) (t : Fin (cfgA tb).N) (d) : (dats tb m ρ 0 c).before (1 : Fin 6) t d = iblk tb m ρ c (1 : Fin 6) t :=
  ((dats tb m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input 2's buffer holds its block at every point. -/
theorem before0_2 (c : Dev nD) (t : Fin (cfgA tb).N) (d) : (dats tb m ρ 0 c).before (2 : Fin 6) t d = iblk tb m ρ c (2 : Fin 6) t :=
  ((dats tb m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input 3's buffer holds its block at every point. -/
theorem before0_3 (c : Dev nD) (t : Fin (cfgA tb).N) (d) : (dats tb m ρ 0 c).before (3 : Fin 6) t d = iblk tb m ρ c (3 : Fin 6) t :=
  ((dats tb m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input 4's buffer holds its block at every point. -/
theorem before0_4 (c : Dev nD) (t : Fin (cfgA tb).N) (d) : (dats tb m ρ 0 c).before (4 : Fin 6) t d = iblk tb m ρ c (4 : Fin 6) t :=
  ((dats tb m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- The result's buffer keeps its contents at a block not in use. -/
theorem hcarry0_5 (c : Dev nD) : ∀ (t : Fin (cfgA tb).N) (ht : t.val ≠ 0), (cfgA tb).idle (5 : Fin 6) ((cfgA tb).grid.coords t) = true → (cfgA tb).fresh (5 : Fin 6) t.val = false →
    (dats tb m ρ 0 c).after (5 : Fin 6) t = (dats tb m ρ 0 c).after (5 : Fin 6) ⟨t.val - 1, by omega⟩ := by
  intro t ht hi hf
  rw [after0_5, after0_5, traj0_eq]
  by_cases q0 : P0_0 tb t
  · by_cases q1 : P0_1 tb t
    · obtain ⟨i5, -, -⟩ := sched0_A tb t q0 q1
      rw [i5] at hi; exact absurd hi (by decide)
    · obtain ⟨i5, -⟩ := sched0_B tb t q0 q1
      rw [i5] at hi; exact absurd hi (by decide)
  · rw [step0_C tb m ρ c t _ q0]
    simp only [hf, Bool.false_eq_true, ↓reduceIte]
    unfold prev0; rw [dif_neg ht]

/-- When the body runs, the result's buffer holds what the point before left, or anything if it was just written back. -/
theorem before0_5 (c : Dev nD) (t : Fin (cfgA tb).N) (d) :
    (dats tb m ρ 0 c).before (5 : Fin 6) t d = if (cfgA tb).fresh (5 : Fin 6) t.val then d else (prev0 tb m ρ c t) := by
  rw [(dats tb m ρ 0 c).before_out_traj (5 : Fin 6) rfl (fun _ _ => rfl) (hcarry0_5 tb m ρ c) t.val t rfl d]
  by_cases hf : (cfgA tb).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

/-! ## The body at a point -/

/-- The body at point `t` on its staging memrefs, as the pipeline calls it. -/
abbrev bodyAt0 (t : Fin (cfgA tb).N) : Prog (TpuEff nD τ sig (Elt Ideal) Λ₀ .tc) PUnit :=
  cc0_experts (crd tb t) (Memref.whole main_arg1) (Memref.isWhole_whole _) (Memref.whole main_arg2) (Memref.isWhole_whole _) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t)

set_option maxHeartbeats 4000000 in
/-- At every point the body, on its blocks and on what the point before left, leaves what is stated. -/
theorem sound_body (hp : Pinned tb m) (c : Dev nD) (t : Fin (cfgA tb).N) :
    iprop((dats tb m ρ 0 c).Φ t.castSucc ∗ (dats tb m ρ 0 c).owesAt () t.castSucc
        ∗ (∃ d, owns (c : Thread nD τ) (ms0_0 tb t) fullShare ((dats tb m ρ 0 c).before (0 : Fin 6) t d))
        ∗ (∃ d, owns (c : Thread nD τ) (ms0_1 tb t) fullShare ((dats tb m ρ 0 c).before (1 : Fin 6) t d))
        ∗ (∃ d, owns (c : Thread nD τ) (ms0_2 tb t) fullShare ((dats tb m ρ 0 c).before (2 : Fin 6) t d))
        ∗ (∃ d, owns (c : Thread nD τ) (ms0_3 tb t) fullShare ((dats tb m ρ 0 c).before (3 : Fin 6) t d))
        ∗ (∃ d, owns (c : Thread nD τ) (ms0_4 tb t) fullShare ((dats tb m ρ 0 c).before (4 : Fin 6) t d))
        ∗ (∃ d, owns (c : Thread nD τ) (ms0_5 tb t) fullShare ((dats tb m ρ 0 c).before (5 : Fin 6) t d)))
      ⊢ wp frame (wpE (defs₀ (F := Ideal)) Variants.none c none) Set.univ (bodyAt0 tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  by_cases q0 : P0_0 tb t
  · by_cases q1 : P0_1 tb t
    · obtain ⟨i5, f5, fr5⟩ := sched0_A tb t q0 q1
      obtain ⟨k0_h1, k0_h2, k0_h3⟩ := hyps0_A tb t q0 q1
      rewrite [i5]
      simp only [before0_0, before0_1, before0_2, before0_3, before0_4, before0_5, after0_0, after0_1, after0_2, after0_3, after0_4, after0_5, f5]
      simp only [fr5, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_A tb m ρ c t _ q0 q1]
      unfold Phi; simp only [prev0T_castSucc, prev0T_succ, traj0_eq, step0_A tb m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_A c (crd tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t) (tb.T0) (tb.T1) (iblk tb m ρ c (0 : Fin 6) t) (iblk tb m ρ c (1 : Fin 6) t) (iblk tb m ρ c (2 : Fin 6) t) (iblk tb m ρ c (3 : Fin 6) t) (iblk tb m ρ c (4 : Fin 6) t) k0_h1 k0_h2 k0_h3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _)
    · obtain ⟨i5, fr5⟩ := sched0_B tb t q0 q1
      obtain ⟨k0_h1, k0_h2, k0_h3⟩ := hyps0_B tb t q0 q1
      rewrite [i5]
      simp only [before0_0, before0_1, before0_2, before0_3, before0_4, before0_5, after0_0, after0_1, after0_2, after0_3, after0_4, after0_5]
      simp only [fr5, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_B tb m ρ c t _ q0 q1]
      unfold Phi; simp only [prev0T_castSucc, prev0T_succ, traj0_eq, step0_B tb m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_B c (crd tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t) (tb.T0) (tb.T1) (iblk tb m ρ c (0 : Fin 6) t) (iblk tb m ρ c (1 : Fin 6) t) (iblk tb m ρ c (2 : Fin 6) t) (iblk tb m ρ c (3 : Fin 6) t) (iblk tb m ρ c (4 : Fin 6) t) _ k0_h1 k0_h2 k0_h3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_B_5 c _ _ _ _ _ _ _ _ _ _ _ _ _ _ _ _ _ _ _ _ _ _ _ _)
  · obtain ⟨i5, fr5⟩ := sched0_C tb t q0
    have k0_h1 := q0
    cases f5 : ((cfgA tb).win (5 : Fin 6)).flush t
    · rewrite [i5]
      simp only [before0_0, before0_1, before0_2, before0_3, before0_4, before0_5, after0_0, after0_1, after0_2, after0_3, after0_4, after0_5, f5]
      simp only [fr5, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_C tb m ρ c t _ q0]
      unfold Phi; simp only [prev0T_castSucc, prev0T_succ, traj0_eq, step0_C tb m ρ c t _ q0, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_C c (crd tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t) (tb.T0) (tb.T1) (iblk tb m ρ c (0 : Fin 6) t) (iblk tb m ρ c (1 : Fin 6) t) (iblk tb m ρ c (2 : Fin 6) t) (iblk tb m ρ c (3 : Fin 6) t) (iblk tb m ρ c (4 : Fin 6) t) k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      iintro ⟨H0, H1, H2, H3, H4, HT0, HT1, H5⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · rewrite [i5]
      simp only [before0_0, before0_1, before0_2, before0_3, before0_4, before0_5, after0_0, after0_1, after0_2, after0_3, after0_4, after0_5, f5]
      simp only [fr5, Bool.false_eq_true, ↓reduceIte]
      rewrite [show (dats tb m ρ 0 c).Φ t.succ = Phi tb m ρ c t.succ from rfl, show (dats tb m ρ 0 c).Φ t.castSucc = Phi tb m ρ c t.castSucc from rfl,
        show (dats tb m ρ 0 c).owesAt () t.succ = (dats tb m ρ 0 c).owesAt () t.castSucc from rfl]
      try rewrite [traj0_eq, step0_C tb m ρ c t _ q0]
      unfold Phi; simp only [prev0T_castSucc, prev0T_succ, traj0_eq, step0_C tb m ρ c t _ q0, Fin.val_castSucc, Fin.val_succ, fr5, Bool.false_eq_true, ↓reduceIte]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_C c (crd tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t) (tb.T0) (tb.T1) (iblk tb m ρ c (0 : Fin 6) t) (iblk tb m ρ c (1 : Fin 6) t) (iblk tb m ρ c (2 : Fin 6) t) (iblk tb m ρ c (3 : Fin 6) t) (iblk tb m ρ c (4 : Fin 6) t) k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      iintro ⟨H0, H1, H2, H3, H4, HT0, HT1, H5⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5

/-- The same, in the form the pipeline's rule asks for. -/
theorem body_obligation (hp : Pinned tb m) (c : Dev nD) : BodyObligation (dats tb m ρ 0 c) (defs₀ (F := Ideal)) Variants.none () Set.univ := fun t => by
  rw [bigSep_W0]
  exact sound_body tb m ρ hp c t

/-! ## The launch -/

/-- What the launch starts from. -/
def u₀ : UR sig nD τ :=
  initOf (Pipeline.cells (pcs tb) ((launch0 (F := Ideal)).cellOf_inj fun _ => adm tb))
    (Pipeline.launchToks (pcs tb) ((launch0 (F := Ideal)).cellOf_inj fun _ => adm tb))

theorem share_eq (c : Dev nD) (w : Fin (cfgA tb).W) : (dats tb m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- At the first point the tables give what the body keeps; -/
theorem phi0_intro (c : Dev nD) :
    iprop(BI.emp ∗ Pipeline.prefHeld pre0 c (fun _ => fullShare.right) (adm tb).1 ∗ Pipeline.scopedRest spec0 c) ⊢ (dats tb m ρ 0 c).Φ 0 := by
  rw [prefHeld_eq, scopedRest0_eq, show (dats tb m ρ 0 c).Φ 0 = Phi tb m ρ c 0 from rfl]
  unfold Phi
  iintro ⟨-, ⟨HT0, HT1⟩, -⟩
  isplitl [HT0]
  · iexact HT0
  iexact HT1

/-- at the last point nothing of it is needed. -/
theorem phiN_exit (c : Dev nD) : (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb m ρ c (Fin.last _) from rfl]
  unfold Phi
  iintro ⟨-, -⟩
  isplitr; · iempintro
  iempintro

/-- At the end every array holds what its write-backs leave, and the tables are as they were. -/
def QC : PUnit × MemSt nD τ sig (Elt Ideal) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = (adm tb).1 j

/-- The launch memory's tables, one by one. -/
theorem V_pre (hp : Pinned tb m) (c : Dev nD) (j : Fin 2) : m ((c : Thread nD τ).loc (pre0.ref j)) = (adm tb).1 j := by
  fin_cases j
  · exact hp.1 c
  · exact hp.2 c

set_option backward.isDefEq.respectTransparency.types false in
set_option maxHeartbeats 4000000 in
/-- From a memory with these tables the program ends, with every array as stated and all counters zero. -/
theorem run_main_quiescent (hp : Pinned tb m) : θ_run (defs (F := Ideal)) (onTc (τ := τ) (main (F := Ideal))) (s₀ m ρ) (fun r => QC tb m ρ r ∧ r.2.sem = fun _ => 0) :=
  Pipeline.θ_run_region_noSem_pf_quiescent pcfgs (fun _ => adm tb) (dats tb m ρ) () ((launch0 (F := Ideal)).cellOf_inj fun _ => adm tb) (0 : Fin 1)
    (launch0 (F := Ideal)).win.to₀ (launch0 (F := Ideal)).pre EP defs₀ Variants.none m ρ main
    (hbody := fun c => (body_obligation tb m ρ hp c).loose) (hne := (launch0 (F := Ideal)).block_pos)
    (harr := (launch0 (F := Ideal)).arr_whole) (hstage := (launch0 (F := Ideal)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := Ideal)).win.arr_inj c (launch0 (F := Ideal)).arr_whole
      (share_eq tb m ρ c) _ _ fun _ => rfl)
    (hpf := V_pre tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Pinned tb m) : θ_run (defs (F := Ideal)) (onTc (τ := τ) (main (F := Ideal))) (s₀ m ρ) (QC tb m ρ) :=
  (θ_run defs _ _).mono (fun _ h => h.1) (run_main_quiescent tb m ρ hp)

/-- The arguments end as they began. -/
theorem unchanged (hp : Pinned tb m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 6)).trans ((dats tb m ρ 0 c).arrAt_in (0 : Fin 6) rfl _), ((h c).2 0).trans (hp.1 c).symm, ((h c).2 1).trans (hp.2 c).symm, ((h c).1 (1 : Fin 6)).trans ((dats tb m ρ 0 c).arrAt_in (1 : Fin 6) rfl _), ((h c).1 (2 : Fin 6)).trans ((dats tb m ρ 0 c).arrAt_in (2 : Fin 6) rfl _), ((h c).1 (3 : Fin 6)).trans ((dats tb m ρ 0 c).arrAt_in (3 : Fin 6) rfl _), ((h c).1 (4 : Fin 6)).trans ((dats tb m ρ 0 c).arrAt_in (4 : Fin 6) rfl _)⟩) (run_main tb m ρ hp)

/-- From a launch memory with tables in range the experts' program ends, and leaves its arguments as they were. -/
theorem frame (hp : Pinned tb m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged tb m ρ hp) ((θ_run defs _ _).mono (fun _ h => h.2) (run_main_quiescent tb m ρ hp))

end Cert.ExpertsIdeal.Rows

end
-- ==== Proof.ExpertsSpec.lean ====
module

public import Idealize.ShloMosaic.PureOps.Ideal
public import Idealize.ShloMosaic.Lib.ValueIdx

@[expose] public section
noncomputable section
open Idealize.ShloMosaic
namespace Mixture

/-- The gated unit: the gate held below seven and passed through the sigmoid of its 1.702-fold, the other input held
between minus seven and seven and raised by one. -/
def unit (g u : EReal) : EReal :=
  min g (Ideal.ofBits .f32 0x40E00000#32) *
      Ideal.div (Ideal.ofBits .f32 0x3F800000#32) (Ideal.ofBits .f32 0x3F800000#32 +
        Ideal.exp (-(Ideal.ofBits .f32 0x3FD9DB23#32 * min g (Ideal.ofBits .f32 0x40E00000#32)))) *
    (min (Ideal.ofBits .f32 0x40E00000#32) (max (Ideal.ofBits .f32 0xC0E00000#32) u) + Ideal.ofBits .f32 0x3F800000#32)

section
variable (X : Fin 81920 → Fin 2048 → EReal) (W : Fin 32 → Fin 2048 → Fin 4096 → EReal) (B : Fin 32 → Fin 4096 → EReal)
  (U : Fin 32 → Fin 2048 → Fin 2048 → EReal) (C : Fin 32 → Fin 2048 → EReal)

/-- One entry of a row's first layer. -/
def layer (e : Fin 32) (r : Fin 81920) (j : Fin 4096) : EReal := (∑ d : Fin 2048, X r d * W e d j) + B e j

/-- One hidden unit: in each tile of 1024 columns the first 512 are gates and the others what they gate. -/
def hidden (e : Fin 32) (r : Fin 81920) (f : Fin 4) (k : Fin 512) : EReal :=
  unit (layer X W B e r ⟨1024 * f.val + k.val, by omega⟩) (layer X W B e r ⟨1024 * f.val + 512 + k.val, by omega⟩)

/-- What one tile of hidden units adds to an output. -/
def part (e : Fin 32) (r : Fin 81920) (f : Fin 4) (d : Fin 2048) : EReal :=
  ∑ k : Fin 512, hidden X W B e r f k * U e ⟨512 * f.val + k.val, by omega⟩ d

/-- A row's output after the tiles up to `n`, the second bias added with the first tile. -/
def upTo (e : Fin 32) (r : Fin 81920) (d : Fin 2048) : ℕ → EReal
  | 0 => part X W B U e r 0 d + C e d
  | n + 1 => upTo e r d n + part X W B U e r ⟨(n + 1) % 4, by omega⟩ d

/-- A row's output. -/
def output (e : Fin 32) (r : Fin 81920) (d : Fin 2048) : EReal := upTo X W B U C e r d 3

/-- The output is the sum over all hidden units, with the second bias. -/
theorem output_eq (e : Fin 32) (r : Fin 81920) (d : Fin 2048) :
    output X W B U C e r d =
      (∑ n : Fin 2048, hidden X W B e r ⟨n.val / 512, by omega⟩ ⟨n.val % 512, by omega⟩ * U e n d) + C e d := by
  have h : (∑ n : Fin 2048, hidden X W B e r ⟨n.val / 512, by omega⟩ ⟨n.val % 512, by omega⟩ * U e n d) =
      ∑ f : Fin 4, part X W B U e r f d := by
    unfold part
    rw [← Fintype.sum_prod_type', ← Equiv.sum_comp (finProdFinEquiv (m := 4) (n := 512))]
    refine Finset.sum_congr rfl fun x _ => ?_
    obtain ⟨f, k⟩ := x
    have hv : (finProdFinEquiv (f, k) : Fin (4 * 512)).val = k.val + 512 * f.val := rfl
    have hk := k.isLt
    have e1 : (⟨(finProdFinEquiv (f, k) : Fin (4 * 512)).val / 512, by omega⟩ : Fin 4) = f := Fin.ext (by simp only [hv]; omega)
    have e2 : (⟨(finProdFinEquiv (f, k) : Fin (4 * 512)).val % 512, by omega⟩ : Fin 512) = k := Fin.ext (by simp only [hv]; omega)
    have e3 : (finProdFinEquiv (f, k) : Fin (4 * 512)) = (⟨512 * f.val + k.val, by omega⟩ : Fin 2048) := Fin.ext (hv.trans (Nat.add_comm _ _))
    exact congrArg₂ (· * ·) (congrArg₂ (hidden X W B e r) e1 e2) (congrArg (fun n => U e n d) e3)
  rw [h, Fin.sum_univ_four]
  show part X W B U e r 0 d + C e d + part X W B U e r 1 d + part X W B U e r 2 d + part X W B U e r 3 d = _
  ac_rfl
end
end Mixture
end
end
-- ==== Proof.ExpertsStep.lean ====
module

public import proofs.«01_k».proof.Proof.Gen.ExpertsIdeal.Flash.Runs
public import proofs.«01_k».proof.Proof.ExpertsSpec
public import Idealize.ShloMosaic.Lib.Pointwise
public import Idealize.ShloMosaic.Lib.IdealHost
public import Idealize.ShloMosaic.Lib.Pipeline.Value
public import Idealize.ShloMosaic.Lib.Pipeline.ValueKit

@[expose] public section
set_option maxRecDepth 16384
noncomputable section
open Idealize.ShloMosaic Idealize.ShloMosaic.TcCoe Idealize.SL.Sem
namespace Cert.ExpertsIdeal.Rows
open Cert.ExpertsIdeal Cert.ExpertsIdeal.Gen Mixture

variable (x0 : FVec Ideal S512x2048 .bf16) (x1 : FVec Ideal S1x2048x1024 .bf16) (x2 : FVec Ideal S1x1x1024 .f32)
  (x3 : FVec Ideal S1x512x2048 .f32) (x4 : FVec Ideal S1x1x2048 .f32) (xo : FVec Ideal S512x2048 .f32)

/-- One entry of the first layer, from a point's blocks. -/
def layerAt (r : Fin 512) (j : Fin 1024) : EReal :=
  (∑ d : Fin 2048, x0 (ix2 r d) * x1 (ix3 0 d j)) + x2 (ix3 0 0 j)

/-- What a point's tile adds to an output, from its blocks. -/
def partAt (r : Fin 512) (d : Fin 2048) : EReal :=
  ∑ k : Fin 512, unit (layerAt x0 x1 x2 r ⟨k.val, by omega⟩) (layerAt x0 x1 x2 r ⟨512 + k.val, by omega⟩) * x3 (ix3 0 k d)

/-- The word of zero. -/
theorem zero_word : Ideal.ofBits .f32 0x00000000#32 = 0 := by simp [Ideal.ofBits, Ideal.ieee]

/-- The word of one. -/
theorem one_word : Ideal.ofBits .f32 0x3F800000#32 = 1 := Ideal.ofBits_one_f32

/-- The body's form of the gated unit. -/
theorem unit_form (g u : EReal) :
    min g (Ideal.ofBits .f32 0x40E00000#32) *
        Ideal.div 1 (1 + Ideal.exp (0 - Ideal.ofBits .f32 0x3FD9DB23#32 * min g (Ideal.ofBits .f32 0x40E00000#32))) *
      (min (Ideal.ofBits .f32 0x40E00000#32) (max (Ideal.ofBits .f32 0xC0E00000#32) u) + 1) = unit g u := by
  unfold Mixture.unit
  rw [one_word, sub_eq_add_neg, zero_add]

set_option maxHeartbeats 1000000 in
/-- The product that a point adds, an entry. -/
theorem pay3_at (r : Fin 512) (d : Fin 2048) :
    (k0_pay3 (F := Ideal) x0 x1 x2 x3 (ix2 r d) : EReal) = partAt x0 x1 x2 x3 r d := by
  pointwise [k0_pay3]
  refine Finset.sum_congr (M := EReal) rfl fun k _ => ?_
  exact congrArg (· * (x3 (ix3 0 k d) : EReal)) (unit_form _ _)

/-- The first tile's store, an entry. -/
theorem pay1_at (p : FVec Ideal S512x2048 .f32) (r : Fin 512) (d : Fin 2048) :
    (k0_pay1 (F := Ideal) p x4 (ix2 r d) : EReal) = p (ix2 r d) + x4 (ix3 0 0 d) := by
  pointwise [k0_pay1]

/-- A later tile's store, an entry. -/
theorem pay2_at (p : FVec Ideal S512x2048 .f32) (r : Fin 512) (d : Fin 2048) :
    (k0_pay2 (F := Ideal) p xo (ix2 r d) : EReal) = xo (ix2 r d) + p (ix2 r d) := by
  pointwise [k0_pay2]

/-- A load of a whole buffer reads what it holds. -/
theorem whole_rep {S : Shape} {e : EltTy} (v : View sig .tc .vmem S e) {off : Fin S.rank → Nat}
    (inb : ∀ a, off a + S.size a ≤ S.size a) (h : ∀ a, off a = 0) (x : S.Idx → Elt Ideal e) :
    View.readAt (Elt Ideal) v (Rect.unit (s := S) off S.size inb).toLoadRect (v.rep x) = x := by
  rw [View.readAt_eq_ld, View.read_rep, View.ld_unit_lit inb x h]

/-- The same of the result's buffer. -/
theorem whole_unread {S : Shape} {e : EltTy} (a : Memref sig .tc .vmem S e) (w : a.IsWhole) {off : Fin S.rank → Nat}
    (inb : ∀ a, off a + S.size a ≤ S.size a) (h : ∀ a, off a = 0) (x : S.Idx → Elt Ideal e) :
    View.readAt (Elt Ideal) a.view (Rect.unit (s := S) off S.size inb).toLoadRect (w.unread x) = x := by
  rw [View.readAt_eq_ld, w.read_unread, View.ld_unit_lit inb x h]

section Runs
variable (c : Dev nD) (i : grid0.Coords) (a4 : Memref sig .tc .vmem S512x2048 .bf16) (h4 : a4.IsWhole)
  (a5 : Memref sig .tc .vmem S1x2048x1024 .bf16) (h5 : a5.IsWhole) (a6 : Memref sig .tc .vmem S1x1x1024 .f32)
  (h6 : a6.IsWhole) (a7 : Memref sig .tc .vmem S1x512x2048 .f32) (h7 : a7.IsWhole)
  (a8 : Memref sig .tc .vmem S1x1x2048 .f32) (h8 : a8.IsWhole) (a9 : Memref sig .tc .vmem S512x2048 .f32) (h9 : a9.IsWhole)
  (T0 : S160.Idx → Elt Ideal .i32) (T1 : S1.Idx → Elt Ideal .i32)

/-- What the first tile leaves in the buffer. -/
theorem out_A (q1 q2 q3) : out0_A_5 c i a4 h4 a5 h5 a6 h6 a7 h7 a8 h8 a9 h9 T0 T1 x0 x1 x2 x3 x4 q1 q2 q3 = k0_pay1 (F := Ideal) (k0_pay3 x0 x1 x2 x3) x4 := by
  unfold out0_A_5
  rw [View.read_writes_eq_canon _ _ _ (cover0_A_5 c i a4 h4 a5 h5 a6 h6 a7 h7 a8 h8 a9 h9 T0 T1 x0 x1 x2 x3 x4 q1 q2 q3)]
  unfold kernelRun0_A
  dsimp only
  unfold kernelRun0_A.sl.HO5_1
  rw [View.canon_cons_unit_lit _ _ _ (by decide)]
  refine congrArg₂ (k0_pay1 (F := Ideal)) ?_ (whole_rep a8.view _ (by decide) x4)
  unfold kernelRun0_A.sl.r_1
  rw [whole_rep a4.view _ (by decide) x0, whole_rep a5.view _ (by decide) x1, whole_rep a6.view _ (by decide) x2,
    whole_rep a7.view _ (by decide) x3]

/-- What a later tile leaves in it. -/
theorem out_B (q1 q2 q3) : out0_B_5 c i a4 h4 a5 h5 a6 h6 a7 h7 a8 h8 a9 h9 T0 T1 x0 x1 x2 x3 x4 xo q1 q2 q3 = k0_pay2 (F := Ideal) (k0_pay3 x0 x1 x2 x3) xo := by
  unfold out0_B_5
  rw [View.read_writes_eq_canon _ _ _ (cover0_B_5 c i a4 h4 a5 h5 a6 h6 a7 h7 a8 h8 a9 h9 T0 T1 x0 x1 x2 x3 x4 xo q1 q2 q3)]
  unfold kernelRun0_B
  dsimp only
  unfold kernelRun0_B.sl.HO5_1
  rw [View.canon_cons_unit_lit _ _ _ (by decide)]
  refine congrArg₂ (k0_pay2 (F := Ideal)) ?_ (whole_unread a9 h9 _ (by decide) xo)
  unfold kernelRun0_B.sl.r_1
  rw [whole_rep a4.view _ (by decide) x0, whole_rep a5.view _ (by decide) x1, whole_rep a6.view _ (by decide) x2,
    whole_rep a7.view _ (by decide) x3]
end Runs
end Cert.ExpertsIdeal.Rows
end
end
-- ==== Proof.ExpertsRead.lean ====
module

public import proofs.«01_k».proof.Proof.ExpertsRun
public import proofs.«01_k».proof.Proof.ExpertsStep
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat Window)
namespace Cert.ExpertsIdeal.Rows
open Cert.ExpertsIdeal Cert.ExpertsIdeal.Gen Mixture

variable (tb : Tables) (m : (ℓ : Loc nD τ sig) → Buf (Elt Ideal) ℓ) (ρ : Dev nD → PrngReg) (c : Dev nD)

/-- The expert of block `b`. -/
def E (b : Fin 160) : Fin 32 := ⟨(tb.T0 (ix1 b)).toNat, tb.lt _⟩

/-- The block a point works on. -/
def blockOf (t : Fin (cfgA tb).N) : Fin 160 := ⟨t.val / 4, by have := lt_of_lt_of_eq t.isLt (N_eq tb); omega⟩

/-- A point's expert is its block's. -/
theorem expert_eq (t : Fin (cfgA tb).N) : expert tb (crd tb t) = (E tb (blockOf tb t)).val := by
  refine congrArg (fun x => (tb.T0 x).toNat) (funext fun (a : Fin 1) => ?_)
  obtain rfl : a = 0 := Subsingleton.elim _ _
  exact Fin.ext (crd_0 tb t)

/-- In a block in use the weights' tile is the grid's. -/
theorem tile_eq (t : Fin (cfgA tb).N) (h : t.val / 4 < tb.nv) : tile tb (crd tb t) = t.val % 4 := by
  unfold tile
  rw [crd_0, if_pos h, crd_1]

/-- Where the rows' window is, in a block in use. -/
theorem index0 (t : Fin (cfgA tb).N) (h : t.val / 4 < tb.nv) : ((cfgA tb).win (0 : Fin 6)).index t = ![t.val / 4, 0] := by
  have e : min (t.val / 4) (tb.nv - 1) = t.val / 4 := by omega
  refine (t0_eq tb (crd tb t)).trans ?_
  rw [crd_0, e]

/-- Where the first weights' window is. -/
theorem index1 (t : Fin (cfgA tb).N) (h : t.val / 4 < tb.nv) :
    ((cfgA tb).win (1 : Fin 6)).index t = ![(E tb (blockOf tb t)).val, 0, t.val % 4] := by
  refine (t1_eq tb (crd tb t)).trans ?_
  rw [expert_eq, tile_eq tb t h]

/-- Where the first biases' is. -/
theorem index2 (t : Fin (cfgA tb).N) (h : t.val / 4 < tb.nv) :
    ((cfgA tb).win (2 : Fin 6)).index t = ![(E tb (blockOf tb t)).val, 0, t.val % 4] := by
  refine (t2_eq tb (crd tb t)).trans ?_
  rw [expert_eq, tile_eq tb t h]

/-- Where the second weights' is. -/
theorem index3 (t : Fin (cfgA tb).N) (h : t.val / 4 < tb.nv) :
    ((cfgA tb).win (3 : Fin 6)).index t = ![(E tb (blockOf tb t)).val, t.val % 4, 0] := by
  refine (t3_eq tb (crd tb t)).trans ?_
  rw [expert_eq, tile_eq tb t h]

/-- Where the second biases' is. -/
theorem index4 (t : Fin (cfgA tb).N) : ((cfgA tb).win (4 : Fin 6)).index t = ![(E tb (blockOf tb t)).val, 0, 0] := by
  refine (t4_eq tb (crd tb t)).trans ?_
  rw [expert_eq]

/-- A row's block holds the rows of the block the point works on. -/
theorem read0 (t : Fin (cfgA tb).N) (h : t.val / 4 < tb.nv) (r : Fin 512) (d : Fin 2048) :
    (show FVec Ideal S512x2048 .bf16 from iblk tb m ρ c (0 : Fin 6) t) (ix2 r d) =
      m ((c : Thread nD τ).loc main_arg0) (ix2 ⟨512 * (blockOf tb t).val + r.val, by omega⟩ d) := by
  refine congrArg (m ((c : Thread nD τ).loc main_arg0)) (funext fun (a : Fin 2) => Fin.ext ?_)
  refine (Window.rect_emb_val ((cfgA tb).win (0 : Fin 6)) t (ix2 r d) a).trans ?_
  rw [index0 tb t h]
  match a with
  | ⟨0, _⟩ => show t.val / 4 * 512 + r.val = 512 * (t.val / 4) + r.val; omega
  | ⟨1, _⟩ => exact (congrArg (· + d.val) (Nat.zero_mul _)).trans (Nat.zero_add _)

/-- The first layer's weights are the block's expert's, at the point's tile. -/
theorem read1 (t : Fin (cfgA tb).N) (h : t.val / 4 < tb.nv) (d : Fin 2048) (j : Fin 1024) :
    (show FVec Ideal S1x2048x1024 .bf16 from iblk tb m ρ c (1 : Fin 6) t) (ix3 0 d j) =
      m ((c : Thread nD τ).loc main_arg3) (ix3 (E tb (blockOf tb t)) d ⟨1024 * (t.val % 4) + j.val, by omega⟩) := by
  refine congrArg (m ((c : Thread nD τ).loc main_arg3)) (funext fun (a : Fin 3) => Fin.ext ?_)
  refine (Window.rect_emb_val ((cfgA tb).win (1 : Fin 6)) t (ix3 0 d j) a).trans ?_
  rw [index1 tb t h]
  match a with
  | ⟨0, _⟩ => show (E tb (blockOf tb t)).val * 1 + 0 = (E tb (blockOf tb t)).val; omega
  | ⟨1, _⟩ => exact (congrArg (· + d.val) (Nat.zero_mul _)).trans (Nat.zero_add _)
  | ⟨2, _⟩ => show t.val % 4 * 1024 + j.val = 1024 * (t.val % 4) + j.val; omega

/-- So are its biases. -/
theorem read2 (t : Fin (cfgA tb).N) (h : t.val / 4 < tb.nv) (j : Fin 1024) :
    (show FVec Ideal S1x1x1024 .f32 from iblk tb m ρ c (2 : Fin 6) t) (ix3 0 0 j) =
      m ((c : Thread nD τ).loc main_arg4) (ix3 (E tb (blockOf tb t)) 0 ⟨1024 * (t.val % 4) + j.val, by omega⟩) := by
  refine congrArg (m ((c : Thread nD τ).loc main_arg4)) (funext fun (a : Fin 3) => Fin.ext ?_)
  refine (Window.rect_emb_val ((cfgA tb).win (2 : Fin 6)) t (ix3 0 0 j) a).trans ?_
  rw [index2 tb t h]
  match a with
  | ⟨0, _⟩ => show (E tb (blockOf tb t)).val * 1 + 0 = (E tb (blockOf tb t)).val; omega
  | ⟨1, _⟩ => rfl
  | ⟨2, _⟩ => show t.val % 4 * 1024 + j.val = 1024 * (t.val % 4) + j.val; omega

/-- And the second layer's weights. -/
theorem read3 (t : Fin (cfgA tb).N) (h : t.val / 4 < tb.nv) (k : Fin 512) (d : Fin 2048) :
    (show FVec Ideal S1x512x2048 .f32 from iblk tb m ρ c (3 : Fin 6) t) (ix3 0 k d) =
      m ((c : Thread nD τ).loc main_arg5) (ix3 (E tb (blockOf tb t)) ⟨512 * (t.val % 4) + k.val, by omega⟩ d) := by
  refine congrArg (m ((c : Thread nD τ).loc main_arg5)) (funext fun (a : Fin 3) => Fin.ext ?_)
  refine (Window.rect_emb_val ((cfgA tb).win (3 : Fin 6)) t (ix3 0 k d) a).trans ?_
  rw [index3 tb t h]
  match a with
  | ⟨0, _⟩ => show (E tb (blockOf tb t)).val * 1 + 0 = (E tb (blockOf tb t)).val; omega
  | ⟨1, _⟩ => show t.val % 4 * 512 + k.val = 512 * (t.val % 4) + k.val; omega
  | ⟨2, _⟩ => exact (congrArg (· + d.val) (Nat.zero_mul _)).trans (Nat.zero_add _)

/-- And the second biases. -/
theorem read4 (t : Fin (cfgA tb).N) (d : Fin 2048) :
    (show FVec Ideal S1x1x2048 .f32 from iblk tb m ρ c (4 : Fin 6) t) (ix3 0 0 d) =
      m ((c : Thread nD τ).loc main_arg6) (ix3 (E tb (blockOf tb t)) 0 d) := by
  refine congrArg (m ((c : Thread nD τ).loc main_arg6)) (funext fun (a : Fin 3) => Fin.ext ?_)
  refine (Window.rect_emb_val ((cfgA tb).win (4 : Fin 6)) t (ix3 0 0 d) a).trans ?_
  rw [index4 tb t]
  match a with
  | ⟨0, _⟩ => show (E tb (blockOf tb t)).val * 1 + 0 = (E tb (blockOf tb t)).val; omega
  | ⟨1, _⟩ => rfl
  | ⟨2, _⟩ => exact (congrArg (· + d.val) (Nat.zero_mul _)).trans (Nat.zero_add _)
end Cert.ExpertsIdeal.Rows
end
end
-- ==== Proof.ExpertsArray.lean ====
module

public import proofs.«01_k».proof.Proof.ExpertsRead

@[expose] public section
set_option maxRecDepth 16384
noncomputable section
open Idealize.ShloMosaic Idealize.ShloMosaic.TcCoe Idealize.SL.Sem
open Idealize.ShloMosaic.Pipeline (Dat Window)
namespace Cert.ExpertsIdeal.Rows
open Cert.ExpertsIdeal Cert.ExpertsIdeal.Gen Mixture

variable (tb : Tables) (m : (ℓ : Loc nD τ sig) → Buf (Elt Ideal) ℓ) (ρ : Dev nD → PrngReg) (c : Dev nD)

/-- The launch memory's rows. -/
def rows (r : Fin 81920) (d : Fin 2048) : EReal := m ((c : Thread nD τ).loc main_arg0) (ix2 r d)
/-- Its first layer's weights. -/
def first (e : Fin 32) (d : Fin 2048) (j : Fin 4096) : EReal := m ((c : Thread nD τ).loc main_arg3) (ix3 e d j)
/-- Its first layer's biases. -/
def firstBias (e : Fin 32) (j : Fin 4096) : EReal := m ((c : Thread nD τ).loc main_arg4) (ix3 e 0 j)
/-- Its second layer's weights. -/
def second (e : Fin 32) (n : Fin 2048) (d : Fin 2048) : EReal := m ((c : Thread nD τ).loc main_arg5) (ix3 e n d)
/-- Its second layer's biases. -/
def secondBias (e : Fin 32) (d : Fin 2048) : EReal := m ((c : Thread nD τ).loc main_arg6) (ix3 e 0 d)

/-- Row `r` of block `b` after the tiles up to `k`. -/
def after (b : Fin 160) (r : Fin 512) (d : Fin 2048) (k : ℕ) : EReal :=
  upTo (rows m c) (first m c) (firstBias m c) (second m c) (secondBias m c) (E tb b) ⟨512 * b.val + r.val, by omega⟩ d k

/-- The same row, entry and tile, the same value. -/
theorem after_congr {b b' : Fin 160} {r r' : Fin 512} {d d' : Fin 2048} {k k' : ℕ} (hb : b.val = b'.val) (hr : r.val = r'.val)
    (hd : d.val = d'.val) (hk : k = k') : after tb m c b r d k = after tb m c b' r' d' k' := by
  obtain rfl := Fin.ext hb
  obtain rfl := Fin.ext hr
  obtain rfl := Fin.ext hd
  rw [hk]

/-- A point's first layer is the block's expert's first layer on the point's rows and tile. -/
theorem layer_at (t : Fin (cfgA tb).N) (h : t.val / 4 < tb.nv) (r : Fin 512) (j : Fin 1024) :
    layerAt (iblk tb m ρ c (0 : Fin 6) t) (iblk tb m ρ c (1 : Fin 6) t) (iblk tb m ρ c (2 : Fin 6) t) r j =
      layer (rows m c) (first m c) (firstBias m c) (E tb (blockOf tb t)) ⟨512 * (blockOf tb t).val + r.val, by omega⟩
        ⟨1024 * (t.val % 4) + j.val, by omega⟩ :=
  congrArg₂ (fun a b : EReal => a + b)
    (Finset.sum_congr (M := EReal) rfl fun d _ =>
      congrArg₂ (fun a b : EReal => a * b) (read0 tb m ρ c t h r d) (read1 tb m ρ c t h d j))
    (read2 tb m ρ c t h j)

/-- So is what its tile adds. -/
theorem part_at (t : Fin (cfgA tb).N) (h : t.val / 4 < tb.nv) (r : Fin 512) (d : Fin 2048) :
    partAt (iblk tb m ρ c (0 : Fin 6) t) (iblk tb m ρ c (1 : Fin 6) t) (iblk tb m ρ c (2 : Fin 6) t)
        (iblk tb m ρ c (3 : Fin 6) t) r d =
      part (rows m c) (first m c) (firstBias m c) (second m c) (E tb (blockOf tb t))
        ⟨512 * (blockOf tb t).val + r.val, by omega⟩ ⟨t.val % 4, by omega⟩ d := by
  refine Finset.sum_congr (M := EReal) rfl fun k _ => ?_
  refine congrArg₂ (fun a b : EReal => a * b) (congrArg₂ Mixture.unit (layer_at tb m ρ c t h r _) ?_) (read3 tb m ρ c t h k d)
  refine (layer_at tb m ρ c t h r _).trans (congrArg (layer (rows m c) (first m c) (firstBias m c) _ _) (Fin.ext ?_))
  show 1024 * (t.val % 4) + (512 + k.val) = 1024 * (t.val % 4) + 512 + k.val
  omega

/-- After a block's first tile. -/
theorem traj_first (t : Fin (cfgA tb).N) (h0 : t.val / 4 < tb.nv) (h1 : t.val % 4 = 0) (r : Fin 512) (d : Fin 2048) :
    traj0 tb m ρ c t.val t.isLt (ix2 r d) = after tb m c (blockOf tb t) r d 0 := by
  refine (congrFun ((traj0_eq tb m ρ c t).trans ((step0_A tb m ρ c t _ ((P0_0_iff tb t).mpr h0) ((cond2_iff tb t).mpr h1)).trans
    (out_A _ _ _ _ _ _ _ _ _ _ _ _ _ _ _ _ _ _ _ _ _ _ _ _))) (ix2 r d)).trans ?_
  refine (pay1_at _ _ r d).trans ?_
  refine congrArg₂ (fun a b : EReal => a + b) ?_ (read4 tb m ρ c t d)
  refine (pay3_at _ _ _ _ r d).trans ((part_at tb m ρ c t h0 r d).trans ?_)
  exact congrArg (fun f => part (rows m c) (first m c) (firstBias m c) (second m c) (E tb (blockOf tb t)) _ f d) (Fin.ext h1)

/-- After a later tile. -/
theorem traj_later (t : Fin (cfgA tb).N) (h0 : t.val / 4 < tb.nv) (h1 : ¬t.val % 4 = 0) (r : Fin 512) (d : Fin 2048) :
    traj0 tb m ρ c t.val t.isLt (ix2 r d) = (prev0 tb m ρ c t (ix2 r d) : EReal) +
      part (rows m c) (first m c) (firstBias m c) (second m c) (E tb (blockOf tb t))
        ⟨512 * (blockOf tb t).val + r.val, by omega⟩ ⟨t.val % 4, by omega⟩ d := by
  refine (congrFun ((traj0_eq tb m ρ c t).trans ((step0_B tb m ρ c t _ ((P0_0_iff tb t).mpr h0)
    (fun q => h1 ((cond2_iff tb t).mp q))).trans
    (out_B _ _ _ _ _ _ _ _ _ _ _ _ _ _ _ _ _ _ _ _ _ _ _ _ _))) (ix2 r d)).trans ?_
  refine (pay2_at _ _ r d).trans ?_
  exact congrArg (fun b : EReal => (prev0 tb m ρ c t (ix2 r d) : EReal) + b)
    ((pay3_at _ _ _ _ r d).trans (part_at tb m ρ c t h0 r d))

/-- Past the blocks in use nothing changes. -/
theorem traj_idle (t : Fin (cfgA tb).N) (h0 : ¬t.val / 4 < tb.nv) : traj0 tb m ρ c t.val t.isLt = prev0 tb m ρ c t := by
  have q0 : ¬P0_0 tb t := fun q => h0 ((P0_0_iff tb t).mp q)
  refine (traj0_eq tb m ρ c t).trans ((step0_C tb m ρ c t _ q0).trans ?_)
  rw [(sched0_C tb t q0).2]
  rfl

/-- What the result's buffer holds after each point. -/
theorem traj_at (n : ℕ) : ∀ (h : n < (cfgA tb).N) (r : Fin 512) (d : Fin 2048),
    traj0 tb m ρ c n h (ix2 r d) =
      after tb m c ⟨min (n / 4) (tb.nv - 1), by have := lt_of_lt_of_eq h (N_eq tb); omega⟩ r d (if n / 4 < tb.nv then n % 4 else 3) := by
  have hp := tb.nv_pos
  induction n with
  | zero =>
    intro h r d
    refine (traj_first tb m ρ c ⟨0, h⟩ (by show 0 / 4 < tb.nv; omega) rfl r d).trans (after_congr tb m c ?_ rfl rfl ?_)
    · show 0 / 4 = min (0 / 4) (tb.nv - 1); omega
    · rw [if_pos (by omega)]
  | succ n ih =>
    intro h r d
    have h640 := lt_of_lt_of_eq h (N_eq tb)
    by_cases h0 : (n + 1) / 4 < tb.nv
    · by_cases h1 : (n + 1) % 4 = 0
      · refine (traj_first tb m ρ c ⟨n + 1, h⟩ h0 h1 r d).trans (after_congr tb m c ?_ rfl rfl ?_)
        · show (n + 1) / 4 = min ((n + 1) / 4) (tb.nv - 1); omega
        · rw [if_pos h0, h1]
      · refine (traj_later tb m ρ c ⟨n + 1, h⟩ h0 h1 r d).trans ?_
        have hb : (⟨min ((n + 1) / 4) (tb.nv - 1), by omega⟩ : Fin 160) = blockOf tb ⟨n + 1, h⟩ :=
          Fin.ext (by show min ((n + 1) / 4) (tb.nv - 1) = (n + 1) / 4; omega)
        rw [hb, if_pos h0]
        refine Eq.trans ?_ (after_congr tb m c rfl rfl rfl (show n % 4 + 1 = (n + 1) % 4 by omega))
        refine congrArg₂ (fun a b : EReal => a + b) ?_ ?_
        · refine (ih (Nat.lt_of_succ_lt h) r d).trans (after_congr tb m c ?_ rfl rfl ?_)
          · show min (n / 4) (tb.nv - 1) = (n + 1) / 4; omega
          · rw [if_pos (by omega)]
        · refine congrArg (fun f => part (rows m c) (first m c) (firstBias m c) (second m c) (E tb (blockOf tb ⟨n + 1, h⟩)) _ f d) (Fin.ext ?_)
          show (n + 1) % 4 = (n % 4 + 1) % 4; omega
    · refine (congrFun (traj_idle tb m ρ c ⟨n + 1, h⟩ h0) (ix2 r d)).trans ?_
      refine (ih (Nat.lt_of_succ_lt h) r d).trans (after_congr tb m c ?_ rfl rfl ?_)
      · show min (n / 4) (tb.nv - 1) = min ((n + 1) / 4) (tb.nv - 1); omega
      · rw [if_neg h0]
        split
        · omega
        · rfl

/-- The result's rows, block by block. -/
def G (i : S81920x2048.Idx) : EReal :=
  after tb m c ⟨(i 0).val / 512, by have := (i 0).isLt; change (i 0).val < 81920 at this; omega⟩ ⟨(i 0).val % 512, by omega⟩ (i 1) 3

/-- Where a point's block lies in the result. -/
theorem place5 (t : Fin (cfgA tb).N) (r : Fin 512) (d : Fin 2048) :
    ((((cfgA tb).win (5 : Fin 6)).blk t).view.emb (ix2 r d) (0 : Fin 2)).val = min (t.val / 4) (tb.nv - 1) * 512 + r.val
      ∧ ((((cfgA tb).win (5 : Fin 6)).blk t).view.emb (ix2 r d) (1 : Fin 2)).val = d.val := by
  constructor
  · refine (Window.rect_emb_val ((cfgA tb).win (5 : Fin 6)) t (ix2 r d) (0 : Fin 2)).trans ?_
    rw [index5]
    rfl
  · refine (Window.rect_emb_val ((cfgA tb).win (5 : Fin 6)) t (ix2 r d) (1 : Fin 2)).trans ?_
    rw [index5]
    exact (congrArg (· + d.val) (Nat.zero_mul _)).trans (Nat.zero_add _)

/-- A row of a block in use lies in the block written back after that block's last tile. -/
theorem covered (i : S81920x2048.Idx) (h : (i 0).val < 512 * tb.nv) : ∃ t : Fin (cfgA tb).N,
    ((cfgA tb).win (5 : Fin 6)).flush t = true ∧ i ∈ (((cfgA tb).win (5 : Fin 6)).blk t).view.set := by
  have hn := tb.nv_pos
  have hl := tb.nv_le
  obtain ⟨n, hlt, hf, hb⟩ : ∃ n : ℕ, n < 640 ∧ (n + 1 = 640 ∨ (n % 4 = 3 ∧ n / 4 + 1 < tb.nv))
      ∧ min (n / 4) (tb.nv - 1) = (i 0).val / 512 := by
    by_cases hb : (i 0).val / 512 + 1 < tb.nv
    · exact ⟨4 * ((i 0).val / 512) + 3, by omega, Or.inr ⟨by omega, by omega⟩, by omega⟩
    · exact ⟨639, by omega, Or.inl rfl, by omega⟩
  refine ⟨⟨n, lt_of_lt_of_eq hlt (N_eq tb).symm⟩, ?_, ?_⟩
  · rw [flush5]
    exact decide_eq_true hf
  · rw [View.set, Finset.mem_map]
    refine ⟨ix2 ⟨(i 0).val % 512, by omega⟩ (i 1), Finset.mem_univ _, ?_⟩
    refine funext fun (a : Fin 2) => Fin.ext ?_
    have p := place5 tb ⟨n, lt_of_lt_of_eq hlt (N_eq tb).symm⟩ ⟨(i 0).val % 512, by omega⟩ (i 1)
    match a with
    | ⟨0, _⟩ =>
      refine p.1.trans ?_
      show min (n / 4) (tb.nv - 1) * 512 + (i 0).val % 512 = (i 0).val
      rw [hb]; omega
    | ⟨1, _⟩ => exact p.2

/-- Every row of a block in use ends at what its expert makes of it. -/
theorem final (i : S81920x2048.Idx) (h : (i 0).val < 512 * tb.nv) :
    (dats tb m ρ 0 c).arrAt (5 : Fin 6) (cfgA tb).N i = G tb m c i := by
  obtain ⟨t, hf, hi⟩ := covered tb i h
  refine (dats tb m ρ 0 c).arrAt_forall_of_flushed (5 : Fin 6) (fun i v => v = G tb m c i) ?_ (cfgA tb).N t i t.isLt hf hi
  intro s hs y
  obtain ⟨r, d, rfl⟩ : ∃ (r : Fin 512) (d : Fin 2048), y = ix2 r d :=
    ⟨y 0, y 1, funext fun (a : Fin 2) => by match a with | ⟨0, _⟩ => rfl | ⟨1, _⟩ => rfl⟩
  show traj0 tb m ρ c s.val s.isLt (ix2 r d) = _
  refine (traj_at tb m ρ c s.val s.isLt r d).trans ?_
  have p := place5 tb s r d
  have hr := r.isLt
  have hN := lt_of_lt_of_eq s.isLt (N_eq tb)
  have hn := tb.nv_pos
  rw [flush5, decide_eq_true_iff] at hs
  refine after_congr tb m c ?_ ?_ p.2.symm ?_
  · show min (s.val / 4) (tb.nv - 1) = _ / 512
    rw [p.1]; omega
  · show r.val = _ % 512
    rw [p.1]; omega
  · split <;> omega
end Cert.ExpertsIdeal.Rows
end
end
-- ==== Proof.MoeGather.lean ====
module

public import Idealize.ShloMosaic.Lib.StableHlo
public import Idealize.ShloMosaic.Lib.Pointwise

@[expose] public section
noncomputable section
open Idealize.ShloMosaic
namespace Mixture
variable {α : Type}

/-- The dimension numbers that take whole slabs of a stack of `N`, one at each of `B` start indices. -/
abbrev slabDims (N B P Q : Nat)
    (wf : GatherDims.WF ⟨3, ![N, P, Q]⟩ ⟨2, ![B, 1]⟩ ⟨3, ![B, P, Q]⟩ [1, 2] [0] [] [0] [] 1 ![1, P, Q]) :
    GatherDims ⟨3, ![N, P, Q]⟩ ⟨2, ![B, 1]⟩ ⟨3, ![B, P, Q]⟩ where
  offsetDims := [1, 2]
  collapsedSliceDims := [0]
  operandBatchingDims := []
  startIndicesBatchingDims := []
  startIndexMap := [0]
  indexVectorDim := 1
  sliceSizes := ![1, P, Q]
  wf := wf

/-- The start index of slab `b`. -/
abbrev slabIdx {B P Q : Nat} (y : (⟨3, ![B, P, Q]⟩ : Shape).Idx) : (⟨2, ![B, 1]⟩ : Shape).Idx :=
  fun a => match a with | ⟨0, _⟩ => ⟨(y 0).val, (y 0).isLt⟩ | ⟨1, _⟩ => ⟨0, Nat.one_pos⟩

/-- An entry of the slabs taken is that entry of the slab its start index names, the index held inside the stack. -/
theorem slab_apply {N B P Q w : Nat} (hN : 0 < N)
    (wf : GatherDims.WF ⟨3, ![N, P, Q]⟩ ⟨2, ![B, 1]⟩ ⟨3, ![B, P, Q]⟩ [1, 2] [0] [] [0] [] 1 ![1, P, Q])
    (x : (⟨3, ![N, P, Q]⟩ : Shape).Idx → α) (idx : IVec ⟨2, ![B, 1]⟩ w) (y : (⟨3, ![B, P, Q]⟩ : Shape).Idx) :
    Host.gather (slabDims N B P Q wf) x idx y =
      x (ix3 ⟨min (idx (slabIdx y)).toInt.toNat (N - 1), by omega⟩ ⟨(y 1).val, (y 1).isLt⟩ ⟨(y 2).val, (y 2).isLt⟩) := by
  unfold Host.gather
  congr 1
  funext a
  refine Fin.ext ?_
  show (slabDims N B P Q wf).start y idx a + (slabDims N B P Q wf).batchCoord y a + (slabDims N B P Q wf).offCoord y a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    have hsi : (slabDims N B P Q wf).siIdx y ⟨List.idxOf (0 : Fin 3) (slabDims N B P Q wf).startIndexMap,
        List.idxOf_lt_length_iff.2 (List.mem_singleton.mpr rfl)⟩ = slabIdx y := by
      funext b
      refine Fin.ext ?_
      match b with
      | ⟨0, _⟩ => rfl
      | ⟨1, _⟩ => rfl
    exact (dif_pos (show (0 : Fin 3) ∈ (slabDims N B P Q wf).startIndexMap from List.mem_singleton.mpr rfl)).trans
      (congrArg (fun i => min (idx i).toInt.toNat (N - 1)) hsi)
  | ⟨1, _⟩ =>
    have h0 : (slabDims N B P Q wf).start y idx (1 : Fin 3) = 0 := by
      unfold GatherDims.start
      exact dif_neg (show ¬(1 : Fin 3) ∈ [(0 : Fin 3)] by decide)
    exact (congrArg (· + _) h0).trans ((Nat.zero_add _).trans rfl)
  | ⟨2, _⟩ =>
    have h0 : (slabDims N B P Q wf).start y idx (2 : Fin 3) = 0 := by
      unfold GatherDims.start
      exact dif_neg (show ¬(2 : Fin 3) ∈ [(0 : Fin 3)] by decide)
    exact (congrArg (· + _) h0).trans ((Nat.zero_add _).trans rfl)
end Mixture
end
end
-- ==== Proof.ExpertsRef.lean ====
module

public import proofs.«01_k».proof.Proof.Gen.MoeIdeal.Read
public import proofs.«01_k».proof.Proof.ExpertsSpec
public import proofs.«01_k».proof.Proof.MoeGather

@[expose] public section
set_option maxRecDepth 16384
noncomputable section
open Idealize.ShloMosaic Idealize.ShloMosaic.TcCoe Idealize.SL.Sem
namespace Cert.MoeIdeal.Entry
open Cert.MoeIdeal Cert.MoeIdeal.Gen Cert.MoeIdeal.Read Mixture

/-- An index below 32 is not shifted. -/
theorem word_kept (a : BitVec 32) (h : a.toNat < 32) :
    Scalar.select (IntOp.cmpi .slt a 0#32) (IntOp.addi a 32#32) a = a := by
  have hs : IntOp.cmpi .slt a 0#32 = 0#1 := by
    have h2 : a.slt 0#32 = false := by
      rw [BitVec.slt, decide_eq_false_iff_not, BitVec.toInt_eq_toNat_of_lt (by omega)]
      simp
    show BitVec.ofBool (a.slt 0#32) = 0#1
    rw [h2]
    rfl
  rw [hs]
  rfl

/-- Nor held. -/
theorem word_nat (a : BitVec 32) (h : a.toNat < 32) : min a.toInt.toNat (32 - 1) = a.toNat := by
  rw [BitVec.toInt_eq_toNat_of_lt (by omega)]
  simp
  omega

variable (x0 : FVec Ideal S81920x2048 .bf16) (x1 : IVec S160 32) (x3 : FVec Ideal S32x2048x4096 .bf16)
  (x4 : FVec Ideal S32x1x4096 .f32) (x5 : FVec Ideal S32x2048x2048 .f32) (x6 : FVec Ideal S32x1x2048 .f32)
  (h : ∀ i, (x1 i).toNat < 32)

/-- The expert of block `b`. -/
def E (b : Fin 160) : Fin 32 := ⟨(x1 (ix1 b)).toNat, h _⟩

include h in
/-- The first gather's start indices are the table's entries. -/
theorem kept7 (b : Fin 160) (j : S160x1.Idx) (hj : (j 0).val = b.val) : val_main_v8 (F := Ideal) x1 j = x1 (ix1 b) := by
  refine (val_main_v8_apply (F := Ideal) x1 j).trans ((word_kept _ (h _)).trans (congrArg x1 (funext fun (a : Fin 1) => ?_)))
  obtain rfl : a = 0 := Subsingleton.elim _ _
  exact Fin.ext hj

include h in
/-- So are the second's. -/
theorem kept15 (b : Fin 160) (j : S160x1.Idx) (hj : (j 0).val = b.val) : val_main_v16 (F := Ideal) x1 j = x1 (ix1 b) :=
  (show val_main_v16 (F := Ideal) x1 j = val_main_v8 (F := Ideal) x1 j from rfl).trans (kept7 x1 h b j hj)

include h in
/-- The third's. -/
theorem kept46 (b : Fin 160) (j : S160x1.Idx) (hj : (j 0).val = b.val) : val_main_v47 (F := Ideal) x1 j = x1 (ix1 b) :=
  (show val_main_v47 (F := Ideal) x1 j = val_main_v8 (F := Ideal) x1 j from rfl).trans (kept7 x1 h b j hj)

include h in
/-- The fourth's. -/
theorem kept54 (b : Fin 160) (j : S160x1.Idx) (hj : (j 0).val = b.val) : val_main_v55 (F := Ideal) x1 j = x1 (ix1 b) :=
  (show val_main_v55 (F := Ideal) x1 j = val_main_v8 (F := Ideal) x1 j from rfl).trans (kept7 x1 h b j hj)

/-- A start index that holds a block's expert picks that expert. -/
theorem pick {P Q : Nat} (x : (⟨3, ![32, P, Q]⟩ : Shape).Idx → EReal) (w : BitVec 32) (b : Fin 160) (hw : w = x1 (ix1 b))
    (hl : min w.toInt.toNat (32 - 1) < 32) (p : Fin P) (q : Fin Q) :
    x (ix3 ⟨min w.toInt.toNat (32 - 1), hl⟩ p q) = x (ix3 (E x1 h b) p q) := by
  subst hw
  exact congrArg (fun e => x (ix3 e p q)) (Fin.ext (word_nat _ (h _)))

/-- The first layer's weights that the reference gathers for a block are its expert's. -/
theorem slab9 (b : Fin 160) (d : Fin 2048) (j : Fin 4096) :
    (val_main_v9 (F := Ideal) x1 x3 (ix3 b d j) : EReal) = x3 (ix3 (E x1 h b) d j) := by
  unfold val_main_v9
  refine (slab_apply (by decide) _ (val_main_v2 (F := Ideal) x3) (val_main_v8 (F := Ideal) x1) (ix3 b d j)).trans ?_
  exact pick x1 h x3 _ b (kept7 x1 h b _ rfl) _ d j

/-- So are its biases. -/
theorem slab17 (b : Fin 160) (j : Fin 4096) :
    (val_main_v17 (F := Ideal) x1 x4 (ix3 b 0 j) : EReal) = x4 (ix3 (E x1 h b) 0 j) := by
  unfold val_main_v17
  refine (slab_apply (by decide) _ x4 (val_main_v16 (F := Ideal) x1) (ix3 b 0 j)).trans ?_
  exact pick x1 h x4 _ b (kept15 x1 h b _ rfl) _ 0 j

/-- And the second layer's weights. -/
theorem slab48 (b : Fin 160) (n d : Fin 2048) :
    (val_main_v48 (F := Ideal) x1 x5 (ix3 b n d) : EReal) = x5 (ix3 (E x1 h b) n d) := by
  unfold val_main_v48
  refine (slab_apply (by decide) _ x5 (val_main_v47 (F := Ideal) x1) (ix3 b n d)).trans ?_
  exact pick x1 h x5 _ b (kept46 x1 h b _ rfl) _ n d

/-- And the second biases. -/
theorem slab56 (b : Fin 160) (d : Fin 2048) :
    (val_main_v56 (F := Ideal) x1 x6 (ix3 b 0 d) : EReal) = x6 (ix3 (E x1 h b) 0 d) := by
  unfold val_main_v56
  refine (slab_apply (by decide) _ x6 (val_main_v55 (F := Ideal) x1) (ix3 b 0 d)).trans ?_
  exact pick x1 h x6 _ b (kept54 x1 h b _ rfl) _ 0 d

/-- An index of three coordinates is the triple of them. -/
theorem triple {A B C : Nat} (i : (⟨3, ![A, B, C]⟩ : Shape).Idx) (a : Fin A) (b : Fin B) (c : Fin C)
    (ha : (i 0).val = a.val) (hb : (i 1).val = b.val) (hc : (i 2).val = c.val) : i = ix3 a b c :=
  funext fun (x : Fin 3) => Fin.ext (match x with
    | ⟨0, _⟩ => ha
    | ⟨1, _⟩ => hb
    | ⟨2, _⟩ => hc)

/-- The reference's first layer, an entry. -/
theorem layer_entry (b : Fin 160) (r : Fin 512) (j : Fin 4096) :
    (val_main_v19 (F := Ideal) x0 x1 x3 x4 (ix3 b r j) : EReal) =
      layer (fun r d => x0 (ix2 r d)) (fun e d j => x3 (ix3 e d j)) (fun e j => x4 (ix3 e 0 j)) (E x1 h b)
        ⟨512 * b.val + r.val, by omega⟩ j := by
  refine (val_main_v19_apply (F := Ideal) x0 x1 x3 x4 (ix3 b r j)).trans ?_
  refine congrArg₂ (fun a b : EReal => a + b) ?_ ?_
  · refine (val_main_v10_apply x0 x1 x3 (ix3 b r j)).trans (Finset.sum_congr (M := EReal) rfl fun d _ => ?_)
    refine congrArg₂ (fun a b : EReal => a * b) ?_ ?_
    · refine (val_main_v1_apply (F := Ideal) x0 _).trans ?_
      refine congrArg x0 (funext fun (x : Fin 2) => Fin.ext ?_)
      have hd := d.isLt
      have hr := r.isLt
      match x with
      | ⟨0, _⟩ => show ((b.val * 512 + r.val) * 2048 + d.val) / 2048 = 512 * b.val + r.val; omega
      | ⟨1, _⟩ => show ((b.val * 512 + r.val) * 2048 + d.val) % 2048 = d.val; omega
    · exact (congrArg (val_main_v9 (F := Ideal) x1 x3) (triple _ b d j rfl rfl rfl)).trans (slab9 x1 x3 h b d j)
  · refine (val_main_v18_apply (F := Ideal) x1 x4 _).trans ?_
    exact (congrArg (val_main_v17 (F := Ideal) x1 x4) (triple _ b 0 j rfl rfl rfl)).trans (slab17 x1 x4 h b j)

/-- The gates are the first half of each tile. -/
theorem gate_entry (b : Fin 160) (r : Fin 512) (n : Fin 2048) :
    val_main_v23 (F := Ideal) x0 x1 x3 x4 (ix3 b r n) =
      val_main_v19 (F := Ideal) x0 x1 x3 x4 (ix3 b r ⟨1024 * (n.val / 512) + n.val % 512, by omega⟩) := by
  refine (val_main_v23_apply (F := Ideal) x0 x1 x3 x4 _).trans ?_
  refine (val_main_v22_apply (F := Ideal) x0 x1 x3 x4 _).trans ?_
  refine (val_main_v21_apply (F := Ideal) x0 x1 x3 x4 _).trans ?_
  refine (val_main_v20_apply (F := Ideal) x0 x1 x3 x4 _).trans ?_
  have hb := b.isLt
  have hr := r.isLt
  have hn := n.isLt
  have e1 : ((b.val * 512 + r.val) * 2048 + n.val) / 1048576 = b.val := by omega
  have e2 : ((b.val * 512 + r.val) * 2048 + n.val) / 2048 % 512 = r.val := by omega
  have e3 : ((b.val * 512 + r.val) * 2048 + n.val) / 512 % 4 = n.val / 512 := by omega
  have e4 : ((b.val * 512 + r.val) * 2048 + n.val) % 512 = n.val % 512 := by omega
  have f1 : (((b.val * 512 + r.val) * 4 + n.val / 512) * 512 + n.val % 512) / 1048576 = b.val := by omega
  have f2 : (((b.val * 512 + r.val) * 4 + n.val / 512) * 512 + n.val % 512) / 2048 % 512 = r.val := by omega
  have f3 : (((b.val * 512 + r.val) * 4 + n.val / 512) * 512 + n.val % 512) / 512 % 4 = n.val / 512 := by omega
  have f4 : (((b.val * 512 + r.val) * 4 + n.val / 512) * 512 + n.val % 512) % 512 = n.val % 512 := by omega
  refine congrArg (val_main_v19 (F := Ideal) x0 x1 x3 x4) (triple _ b r _ ?_ ?_ ?_) <;>
    simp only [idx_main_v20, idx_main_v21, idx_main_v22, idx_main_v23, ix3, e1, e2, e3, e4, f1, f2, f3, f4] <;> omega

/-- What they gate is the second half. -/
theorem up_entry (b : Fin 160) (r : Fin 512) (n : Fin 2048) :
    val_main_v26 (F := Ideal) x0 x1 x3 x4 (ix3 b r n) =
      val_main_v19 (F := Ideal) x0 x1 x3 x4 (ix3 b r ⟨1024 * (n.val / 512) + 512 + n.val % 512, by omega⟩) := by
  refine (val_main_v26_apply (F := Ideal) x0 x1 x3 x4 _).trans ?_
  refine (val_main_v25_apply (F := Ideal) x0 x1 x3 x4 _).trans ?_
  refine (val_main_v24_apply (F := Ideal) x0 x1 x3 x4 _).trans ?_
  refine (val_main_v20_apply (F := Ideal) x0 x1 x3 x4 _).trans ?_
  have hb := b.isLt
  have hr := r.isLt
  have hn := n.isLt
  have e1 : ((b.val * 512 + r.val) * 2048 + n.val) / 1048576 = b.val := by omega
  have e2 : ((b.val * 512 + r.val) * 2048 + n.val) / 2048 % 512 = r.val := by omega
  have e3 : ((b.val * 512 + r.val) * 2048 + n.val) / 512 % 4 = n.val / 512 := by omega
  have e4 : ((b.val * 512 + r.val) * 2048 + n.val) % 512 = n.val % 512 := by omega
  have f1 : (((b.val * 512 + r.val) * 4 + n.val / 512) * 512 + n.val % 512) / 1048576 = b.val := by omega
  have f2 : (((b.val * 512 + r.val) * 4 + n.val / 512) * 512 + n.val % 512) / 2048 % 512 = r.val := by omega
  have f3 : (((b.val * 512 + r.val) * 4 + n.val / 512) * 512 + n.val % 512) / 512 % 4 = n.val / 512 := by omega
  have f4 : (((b.val * 512 + r.val) * 4 + n.val / 512) * 512 + n.val % 512) % 512 = n.val % 512 := by omega
  refine congrArg (val_main_v19 (F := Ideal) x0 x1 x3 x4) (triple _ b r _ ?_ ?_ ?_) <;>
    simp only [idx_main_v20, idx_main_v24, idx_main_v25, idx_main_v26, ix3, e1, e2, e3, e4, f1, f2, f3, f4] <;> omega

/-- A hidden unit of the reference. -/
theorem unit_entry (i : S160x512x2048.Idx) : (val_main_v41 (F := Ideal) x0 x1 x3 x4 i : EReal) =
    Mixture.unit (val_main_v23 (F := Ideal) x0 x1 x3 x4 i) (val_main_v26 (F := Ideal) x0 x1 x3 x4 i) := rfl

/-- It is the expert's hidden unit on the row. -/
theorem hidden_entry (b : Fin 160) (r : Fin 512) (n : Fin 2048) :
    (val_main_v41 (F := Ideal) x0 x1 x3 x4 (ix3 b r n) : EReal) =
      hidden (fun r d => x0 (ix2 r d)) (fun e d j => x3 (ix3 e d j)) (fun e j => x4 (ix3 e 0 j)) (E x1 h b)
        ⟨512 * b.val + r.val, by omega⟩ ⟨n.val / 512, by omega⟩ ⟨n.val % 512, by omega⟩ := by
  refine (unit_entry x0 x1 x3 x4 _).trans (congrArg₂ Mixture.unit ?_ ?_)
  · exact (gate_entry x0 x1 x3 x4 b r n).trans (layer_entry x0 x1 x3 x4 h b r _)
  · exact (up_entry x0 x1 x3 x4 b r n).trans (layer_entry x0 x1 x3 x4 h b r _)

/-- An entry of the reference's result. -/
theorem entry (b : Fin 160) (r : Fin 512) (d : Fin 2048) (i : S81920x2048.Idx) (hi : (i 0).val = 512 * b.val + r.val)
    (hd : (i 1).val = d.val) :
    (val_main_v59 (F := Ideal) x0 x1 x3 x4 x5 x6 i : EReal) =
      output (fun r d => x0 (ix2 r d)) (fun e d j => x3 (ix3 e d j)) (fun e j => x4 (ix3 e 0 j))
        (fun e n d => x5 (ix3 e n d)) (fun e d => x6 (ix3 e 0 d)) (E x1 h b) ⟨512 * b.val + r.val, by omega⟩ d := by
  rw [output_eq]
  refine (val_main_v59_apply (F := Ideal) x0 x1 x3 x4 x5 x6 i).trans ?_
  have hr := r.isLt
  have hdl := d.isLt
  have e : idx_main_v59 i = ix3 b r d := by
    refine triple _ b r d ?_ ?_ ?_
    · show ((i 0).val * 2048 + (i 1).val) / 1048576 = b.val
      rw [hi, hd]; omega
    · show ((i 0).val * 2048 + (i 1).val) / 2048 % 512 = r.val
      rw [hi, hd]; omega
    · show ((i 0).val * 2048 + (i 1).val) % 2048 = d.val
      rw [hi, hd]; omega
  rw [e]
  refine (val_main_v58_apply (F := Ideal) x0 x1 x3 x4 x5 x6 (ix3 b r d)).trans ?_
  refine congrArg₂ (fun a b : EReal => a + b) ?_ ?_
  · refine (val_main_v49_apply x0 x1 x3 x4 x5 (ix3 b r d)).trans (Finset.sum_congr (M := EReal) rfl fun n _ => ?_)
    refine congrArg₂ (fun a b : EReal => a * b) ?_ ?_
    · exact (congrArg (val_main_v41 (F := Ideal) x0 x1 x3 x4) (triple _ b r n rfl rfl rfl)).trans
        (hidden_entry x0 x1 x3 x4 h b r n)
    · exact (congrArg (val_main_v48 (F := Ideal) x1 x5) (triple _ b n d rfl rfl rfl)).trans (slab48 x1 x5 h b n d)
  · refine (val_main_v57_apply (F := Ideal) x1 x6 _).trans ?_
    exact (congrArg (val_main_v56 (F := Ideal) x1 x6) (triple _ b 0 d rfl rfl rfl)).trans (slab56 x1 x6 h b d)
end Cert.MoeIdeal.Entry
end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ExpertsIdeal
public import proofs.«01_k».proof.Proof.Gen.ExpertsIdeal.Flash.Runs
public import proofs.«01_k».proof.Proof.Gen.MoeIdeal
public import proofs.«01_k».proof.Proof.Gen.MoeIdeal.Run
public import proofs.«01_k».proof.Proof.Gen.MoeIdeal.Read
public import proofs.«01_k».proof.Proof.Array
public import proofs.«01_k».proof.Proof.RefEntry
public import proofs.«01_k».proof.Proof.Finite
public import proofs.«01_k».proof.Proof.ExpertsPre
public import proofs.«01_k».proof.Proof.ExpertsArray
public import proofs.«01_k».proof.Proof.ExpertsRef
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel runs and leaves its arguments unchanged. -/
theorem frame_kernel : Cert.quiescent_Kernel := fun m ρ _ => Cert.Kernel.Gen.frame m ρ

/-- The idealized kernel runs and leaves its arguments unchanged. -/
theorem frame_ideal : Cert.quiescent_KernelIdeal := fun m ρ _ => Cert.KernelIdeal.Gen.frame m ρ

/-- The idealized reference runs and leaves its arguments unchanged. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The named literal of the mask stands for minus infinity. -/
theorem preserved : Cert.preserves_Kernel_KernelIdeal :=
  IdealRules.named_const.statement Cert.KernelIdeal.κ "mask" .f32 0xF149F2CA#32 ⊥ rfl

/-- The idealized kernel and the idealized reference end with the same result. -/
theorem equal : Cert.algebraic_KernelIdeal_ReferenceIdeal_pre_finite (hPre_finite := Cert.Pre_finite.shapes) := by
  intro m ρ m' ρ' hpre hagree
  refine ⟨fun c => Cert.KernelIdeal.Whole.G m c, ?_, ?_⟩
  · exact (θ_run Cert.KernelIdeal.defs _ _).mono
      (fun _ h c => ⟨(h c).1.trans (Cert.KernelIdeal.Whole.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    obtain ⟨f0, f1, f2, f5⟩ := @Cert.Pre_finite.reals Cert.Pre_finite.shapes _ _ _ _ _ _ _ (hpre c)
    rw [Cert.ReferenceIdeal.Read.val_main_v91_eq, a0, a1, a2, a3, a4, a5, a6]
    funext i
    obtain ⟨r, l, rfl⟩ : ∃ (r : Fin 16384) (l : Fin 1024), i = ix2 r l := by
      idx_vars i
      exact ⟨_, _, rfl⟩
    exact Cert.ReferenceIdeal.Stages.reference_at _ _ _ _ _ _ _ (fun a c => f0 _) (fun a c => f1 _)
      (fun a c => f2 _) (fun a => f5 _) r l

/-- Under the precondition the launch memory's tables are in range. -/
theorem pinned (m : (ℓ : Loc Cert.ExpertsIdeal.nD Cert.ExpertsIdeal.τ Cert.ExpertsIdeal.sig) → Buf (Elt Ideal) ℓ)
    (h : Cert.Pre_ExpertsIdeal (hPre_ranged := Cert.Pre_ranged.shapes) m) :
    ∃ tb : Cert.ExpertsIdeal.Rows.Tables, Cert.ExpertsIdeal.Rows.Pinned tb m := by
  have one : ∀ c : Dev Cert.ExpertsIdeal.nD, c = (0 : Fin 1) := fun c => Subsingleton.elim (α := Fin 1) _ _
  have k := @Cert.Pre_ranged.inRange Cert.Pre_ranged.shapes _ _ _ _ _ _ _ (h (0 : Fin 1))
  refine ⟨⟨_, _, k.1, fun x => (k.2 x).1, fun x => (k.2 x).2⟩, fun c => ?_, fun c => ?_⟩
  · rw [one c]
  · rw [one c]

/-- The experts' program runs and leaves its arguments unchanged. -/
theorem frame_experts : Cert.quiescent_ExpertsIdeal (hPre_ranged := Cert.Pre_ranged.shapes) := fun m ρ h => by
  obtain ⟨tb, hp⟩ := pinned m h
  exact Cert.ExpertsIdeal.Rows.frame tb m ρ hp

/-- The experts' reference runs and leaves its arguments unchanged. -/
theorem frame_moe : Cert.quiescent_MoeIdeal := fun m ρ _ =>
  (θ_run (Cert.MoeIdeal.defs (F := Ideal)) _ _).mono
    (fun r h => ⟨fun c => (h c).2, Idealize.ShloMosaic.sem_eq_zero_of_no_sems (by decide) r.2⟩)
    (Cert.MoeIdeal.Value.run (F := Ideal) m ρ)

/-- The experts' program and its reference end with the same rows in every block in use. -/
theorem equal_experts : Cert.algebraic_ExpertsIdeal_MoeIdeal_on_in_use (hPre_ranged := Cert.Pre_ranged.shapes)
    (hOn_in_use := Cert.On_in_use.shapes) := by
  intro m ρ m' ρ' hpre hagree
  haveI := Cert.On_in_use.shapes
  obtain ⟨tb, hp⟩ := pinned m hpre
  have inside : ∀ (c : Dev Cert.ExpertsIdeal.nD) (i : Cert.ExpertsIdeal.S81920x2048.Idx),
      Cert.On_in_use.fn (F := Ideal) (m ((c.tc : Thread Cert.ExpertsIdeal.nD Cert.ExpertsIdeal.τ).loc Cert.ExpertsIdeal.main_arg0))
        (m ((c.tc : Thread Cert.ExpertsIdeal.nD Cert.ExpertsIdeal.τ).loc Cert.ExpertsIdeal.main_arg1))
        (m ((c.tc : Thread Cert.ExpertsIdeal.nD Cert.ExpertsIdeal.τ).loc Cert.ExpertsIdeal.main_arg2))
        (m ((c.tc : Thread Cert.ExpertsIdeal.nD Cert.ExpertsIdeal.τ).loc Cert.ExpertsIdeal.main_arg3))
        (m ((c.tc : Thread Cert.ExpertsIdeal.nD Cert.ExpertsIdeal.τ).loc Cert.ExpertsIdeal.main_arg4))
        (m ((c.tc : Thread Cert.ExpertsIdeal.nD Cert.ExpertsIdeal.τ).loc Cert.ExpertsIdeal.main_arg5))
        (m ((c.tc : Thread Cert.ExpertsIdeal.nD Cert.ExpertsIdeal.τ).loc Cert.ExpertsIdeal.main_arg6)) i = 1#1 →
      (i 0).val < 512 * tb.nv := by
    intro c i h
    have e2 := hp.2 c
    have k := @Cert.On_in_use.row_lt Cert.On_in_use.shapes _ _ _ _ _ _ _ i Cert.ExpertsIdeal.Rows.one
      (by rw [e2]; exact tb.le _) h
    rw [e2] at k
    exact k
  refine ⟨fun c => Cert.ExpertsIdeal.Rows.G tb m c, ?_, ?_⟩
  · refine (θ_run Cert.ExpertsIdeal.defs _ _).mono (fun _ h c => ⟨fun i hi => ?_, h.2 c⟩)
      (θ_run_and (Cert.ExpertsIdeal.Rows.run_main tb m ρ hp) (Cert.ExpertsIdeal.Rows.unchanged tb m ρ hp))
    exact (congrFun ((h.1 c).1 (5 : Fin 6)) i).trans (Cert.ExpertsIdeal.Rows.final tb m ρ c i (inside c i hi))
  · refine (θ_run Cert.MoeIdeal.defs _ _).mono (fun _ h c => ⟨fun i hi => (congrFun (h c).1 i).trans ?_, (h c).2⟩)
      (Cert.MoeIdeal.Value.run (F := Ideal) m' ρ')
    obtain ⟨a0, a1, a2, a3, a4, a5, a6⟩ := hagree c
    rw [Cert.MoeIdeal.Read.val_main_v59_eq, a0, a1, a3, a4, a5, a6]
    have hlt : ∀ x, (m ((c.tc : Thread Cert.ExpertsIdeal.nD Cert.ExpertsIdeal.τ).loc Cert.ExpertsIdeal.main_arg1) x).toNat < 32 := by
      rw [hp.1 c]
      exact tb.lt
    have h0 : (i 0).val < 81920 := (i 0).isLt
    refine (Cert.MoeIdeal.Entry.entry _ _ _ _ _ _ hlt ⟨(i 0).val / 512, by omega⟩ ⟨(i 0).val % 512, by omega⟩ (i 1) i
      (by show (i 0).val = 512 * ((i 0).val / 512) + (i 0).val % 512; omega) rfl).trans ?_
    have he : Cert.MoeIdeal.Entry.E _ hlt ⟨(i 0).val / 512, by omega⟩ = Cert.ExpertsIdeal.Rows.E tb ⟨(i 0).val / 512, by omega⟩ :=
      Fin.ext (congrArg (fun t => (t (ix1 ⟨(i 0).val / 512, by omega⟩)).toNat) (hp.1 c))
    rw [he]
    rfl

/-- Everything claimed. -/
theorem claim : Cert.Claim :=
  ⟨Cert.Kernel.Gen.facts, Cert.KernelIdeal.Gen.facts, Cert.ReferenceIdeal.Gen.facts, Cert.ExpertsIdeal.Gen.facts,
    Cert.MoeIdeal.Gen.facts, Cert.Pre_finite.shapes, Cert.Pre_ranged.shapes, Cert.On_in_use.shapes,
    frame_kernel, frame_ideal, fun m ρ _ => Cert.KernelIdeal.Gen.frame m ρ,
    frame_reference,
    fun m ρ _ => frame_reference m ρ trivial, frame_experts, frame_moe, fun m ρ _ => frame_moe m ρ trivial,
    preserved, equal, equal_experts⟩

end Cert.Proof

end
